-- ==== Defs.lean ====
def Pre_Kernel (m : (ℓ : Loc Cert.Kernel.nD Cert.Kernel.τ Cert.Kernel.sig) → Buf (Elt Bits) ℓ) : Prop :=
  True

def Pre_Kernel_normal_scale [hPre_normal_scale : Cert.Pre_normal_scale.Facts] (m : (ℓ : Loc Cert.Kernel.nD Cert.Kernel.τ Cert.Kernel.sig) → Buf (Elt Bits) ℓ) : Prop :=
  ∀ c : Dev Cert.Kernel.nD,
    (Cert.Pre_normal_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_ReferenceWords [hPre_normal_scale : Cert.Pre_normal_scale.Facts] (m : (ℓ : Loc Cert.ReferenceWords.nD Cert.ReferenceWords.τ Cert.ReferenceWords.sig) → Buf (Elt Bits) ℓ) : Prop :=
  ∀ c : Dev Cert.ReferenceWords.nD,
    (Cert.Pre_normal_scale.fn (F := Bits) (m ((c.tc : Thread Cert.ReferenceWords.nD Cert.ReferenceWords.τ).loc Cert.ReferenceWords.main_arg0)) (m ((c.tc : Thread Cert.ReferenceWords.nD Cert.ReferenceWords.τ).loc Cert.ReferenceWords.main_arg1)) (m ((c.tc : Thread Cert.ReferenceWords.nD Cert.ReferenceWords.τ).loc Cert.ReferenceWords.main_arg2)) (m ((c.tc : Thread Cert.ReferenceWords.nD Cert.ReferenceWords.τ).loc Cert.ReferenceWords.main_arg3))) = (fun _ => 1#1)

def Pre_KernelOfWord (m : (ℓ : Loc Cert.KernelOfWord.nD Cert.KernelOfWord.τ Cert.KernelOfWord.sig) → Buf (Elt Bits) ℓ) : Prop :=
  True

def Pre_KernelOfWordIdeal (m : (ℓ : Loc Cert.KernelOfWordIdeal.nD Cert.KernelOfWordIdeal.τ Cert.KernelOfWordIdeal.sig) → Buf (Elt Ideal) ℓ) : Prop :=
  True

def Pre_KernelOfWordIdeal_normal_word [hPre_normal_word : Cert.Pre_normal_word.Facts] (m : (ℓ : Loc Cert.KernelOfWordIdeal.nD Cert.KernelOfWordIdeal.τ Cert.KernelOfWordIdeal.sig) → Buf (Elt Ideal) ℓ) : Prop :=
  ∀ c : Dev Cert.KernelOfWordIdeal.nD,
    (Cert.Pre_normal_word.fn (F := Ideal) (m ((c.tc : Thread Cert.KernelOfWordIdeal.nD Cert.KernelOfWordIdeal.τ).loc Cert.KernelOfWordIdeal.main_arg0)) (m ((c.tc : Thread Cert.KernelOfWordIdeal.nD Cert.KernelOfWordIdeal.τ).loc Cert.KernelOfWordIdeal.main_arg1)) (m ((c.tc : Thread Cert.KernelOfWordIdeal.nD Cert.KernelOfWordIdeal.τ).loc Cert.KernelOfWordIdeal.main_arg2)) (m ((c.tc : Thread Cert.KernelOfWordIdeal.nD Cert.KernelOfWordIdeal.τ).loc Cert.KernelOfWordIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_word [hPre_normal_word : Cert.Pre_normal_word.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_word.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_normal_scale [hKernel : Cert.Kernel.Facts] [hPre_normal_scale : Cert.Pre_normal_scale.Facts] : Prop :=
  ∀ (m : (ℓ : Loc Cert.Kernel.nD Cert.Kernel.τ Cert.Kernel.sig) → Buf (Elt Bits) ℓ) (g : Dev Cert.Kernel.nD → PrngReg), Pre_Kernel_normal_scale m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_ReferenceWords [hReferenceWords : Cert.ReferenceWords.Facts] [hPre_normal_scale : Cert.Pre_normal_scale.Facts] : Prop :=
  ∀ (m : (ℓ : Loc Cert.ReferenceWords.nD Cert.ReferenceWords.τ Cert.ReferenceWords.sig) → Buf (Elt Bits) ℓ) (g : Dev Cert.ReferenceWords.nD → PrngReg), Pre_ReferenceWords m →
    θ_run (Cert.ReferenceWords.defs (F := Bits)) (onTc (τ := Cert.ReferenceWords.τ) (Cert.ReferenceWords.main (F := Bits))) ⟨m, fun _ => 0, g⟩ (fun r => (∀ c : Dev Cert.ReferenceWords.nD,
      r.2.mem ((c.tc : Thread Cert.ReferenceWords.nD Cert.ReferenceWords.τ).loc Cert.ReferenceWords.main_arg0) = m ((c.tc : Thread Cert.ReferenceWords.nD Cert.ReferenceWords.τ).loc Cert.ReferenceWords.main_arg0)
      ∧ r.2.mem ((c.tc : Thread Cert.ReferenceWords.nD Cert.ReferenceWords.τ).loc Cert.ReferenceWords.main_arg1) = m ((c.tc : Thread Cert.ReferenceWords.nD Cert.ReferenceWords.τ).loc Cert.ReferenceWords.main_arg1)
      ∧ r.2.mem ((c.tc : Thread Cert.ReferenceWords.nD Cert.ReferenceWords.τ).loc Cert.ReferenceWords.main_arg2) = m ((c.tc : Thread Cert.ReferenceWords.nD Cert.ReferenceWords.τ).loc Cert.ReferenceWords.main_arg2)
      ∧ r.2.mem ((c.tc : Thread Cert.ReferenceWords.nD Cert.ReferenceWords.τ).loc Cert.ReferenceWords.main_arg3) = m ((c.tc : Thread Cert.ReferenceWords.nD Cert.ReferenceWords.τ).loc Cert.ReferenceWords.main_arg3))
      ∧ r.2.sem = fun _ => 0)

def quiescent_KernelOfWord [hKernelOfWord : Cert.KernelOfWord.Facts] : Prop :=
  ∀ (m : (ℓ : Loc Cert.KernelOfWord.nD Cert.KernelOfWord.τ Cert.KernelOfWord.sig) → Buf (Elt Bits) ℓ) (g : Dev Cert.KernelOfWord.nD → PrngReg), Pre_KernelOfWord m →
    θ_run (Cert.KernelOfWord.defs (F := Bits)) (onTc (τ := Cert.KernelOfWord.τ) (Cert.KernelOfWord.main (F := Bits))) ⟨m, fun _ => 0, g⟩ (fun r => (∀ c : Dev Cert.KernelOfWord.nD,
      r.2.mem ((c.tc : Thread Cert.KernelOfWord.nD Cert.KernelOfWord.τ).loc Cert.KernelOfWord.main_arg0) = m ((c.tc : Thread Cert.KernelOfWord.nD Cert.KernelOfWord.τ).loc Cert.KernelOfWord.main_arg0)
      ∧ r.2.mem ((c.tc : Thread Cert.KernelOfWord.nD Cert.KernelOfWord.τ).loc Cert.KernelOfWord.main_arg1) = m ((c.tc : Thread Cert.KernelOfWord.nD Cert.KernelOfWord.τ).loc Cert.KernelOfWord.main_arg1)
      ∧ r.2.mem ((c.tc : Thread Cert.KernelOfWord.nD Cert.KernelOfWord.τ).loc Cert.KernelOfWord.main_arg2) = m ((c.tc : Thread Cert.KernelOfWord.nD Cert.KernelOfWord.τ).loc Cert.KernelOfWord.main_arg2)
      ∧ r.2.mem ((c.tc : Thread Cert.KernelOfWord.nD Cert.KernelOfWord.τ).loc Cert.KernelOfWord.main_arg3) = m ((c.tc : Thread Cert.KernelOfWord.nD Cert.KernelOfWord.τ).loc Cert.KernelOfWord.main_arg3))
      ∧ r.2.sem = fun _ => 0)

def quiescent_KernelOfWordIdeal [hKernelOfWordIdeal : Cert.KernelOfWordIdeal.Facts] : Prop :=
  ∀ (m : (ℓ : Loc Cert.KernelOfWordIdeal.nD Cert.KernelOfWordIdeal.τ Cert.KernelOfWordIdeal.sig) → Buf (Elt Ideal) ℓ) (g : Dev Cert.KernelOfWordIdeal.nD → PrngReg), Pre_KernelOfWordIdeal m →
    θ_run (Cert.KernelOfWordIdeal.defs (F := Ideal)) (onTc (τ := Cert.KernelOfWordIdeal.τ) (Cert.KernelOfWordIdeal.main (F := Ideal))) ⟨m, fun _ => 0, g⟩ (fun r => (∀ c : Dev Cert.KernelOfWordIdeal.nD,
      r.2.mem ((c.tc : Thread Cert.KernelOfWordIdeal.nD Cert.KernelOfWordIdeal.τ).loc Cert.KernelOfWordIdeal.main_arg0) = m ((c.tc : Thread Cert.KernelOfWordIdeal.nD Cert.KernelOfWordIdeal.τ).loc Cert.KernelOfWordIdeal.main_arg0)
      ∧ r.2.mem ((c.tc : Thread Cert.KernelOfWordIdeal.nD Cert.KernelOfWordIdeal.τ).loc Cert.KernelOfWordIdeal.main_arg1) = m ((c.tc : Thread Cert.KernelOfWordIdeal.nD Cert.KernelOfWordIdeal.τ).loc Cert.KernelOfWordIdeal.main_arg1)
      ∧ r.2.mem ((c.tc : Thread Cert.KernelOfWordIdeal.nD Cert.KernelOfWordIdeal.τ).loc Cert.KernelOfWordIdeal.main_arg2) = m ((c.tc : Thread Cert.KernelOfWordIdeal.nD Cert.KernelOfWordIdeal.τ).loc Cert.KernelOfWordIdeal.main_arg2)
      ∧ r.2.mem ((c.tc : Thread Cert.KernelOfWordIdeal.nD Cert.KernelOfWordIdeal.τ).loc Cert.KernelOfWordIdeal.main_arg3) = m ((c.tc : Thread Cert.KernelOfWordIdeal.nD Cert.KernelOfWordIdeal.τ).loc Cert.KernelOfWordIdeal.main_arg3))
      ∧ r.2.sem = fun _ => 0)

def quiescent_KernelOfWordIdeal_pre_normal_word [hKernelOfWordIdeal : Cert.KernelOfWordIdeal.Facts] [hPre_normal_word : Cert.Pre_normal_word.Facts] : Prop :=
  ∀ (m : (ℓ : Loc Cert.KernelOfWordIdeal.nD Cert.KernelOfWordIdeal.τ Cert.KernelOfWordIdeal.sig) → Buf (Elt Ideal) ℓ) (g : Dev Cert.KernelOfWordIdeal.nD → PrngReg), Pre_KernelOfWordIdeal_normal_word m →
    θ_run (Cert.KernelOfWordIdeal.defs (F := Ideal)) (onTc (τ := Cert.KernelOfWordIdeal.τ) (Cert.KernelOfWordIdeal.main (F := Ideal))) ⟨m, fun _ => 0, g⟩ (fun r => (∀ c : Dev Cert.KernelOfWordIdeal.nD,
      r.2.mem ((c.tc : Thread Cert.KernelOfWordIdeal.nD Cert.KernelOfWordIdeal.τ).loc Cert.KernelOfWordIdeal.main_arg0) = m ((c.tc : Thread Cert.KernelOfWordIdeal.nD Cert.KernelOfWordIdeal.τ).loc Cert.KernelOfWordIdeal.main_arg0)
      ∧ r.2.mem ((c.tc : Thread Cert.KernelOfWordIdeal.nD Cert.KernelOfWordIdeal.τ).loc Cert.KernelOfWordIdeal.main_arg1) = m ((c.tc : Thread Cert.KernelOfWordIdeal.nD Cert.KernelOfWordIdeal.τ).loc Cert.KernelOfWordIdeal.main_arg1)
      ∧ r.2.mem ((c.tc : Thread Cert.KernelOfWordIdeal.nD Cert.KernelOfWordIdeal.τ).loc Cert.KernelOfWordIdeal.main_arg2) = m ((c.tc : Thread Cert.KernelOfWordIdeal.nD Cert.KernelOfWordIdeal.τ).loc Cert.KernelOfWordIdeal.main_arg2)
      ∧ r.2.mem ((c.tc : Thread Cert.KernelOfWordIdeal.nD Cert.KernelOfWordIdeal.τ).loc Cert.KernelOfWordIdeal.main_arg3) = m ((c.tc : Thread Cert.KernelOfWordIdeal.nD Cert.KernelOfWordIdeal.τ).loc Cert.KernelOfWordIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_normal_word [hReferenceIdeal : Cert.ReferenceIdeal.Facts] [hPre_normal_word : Cert.Pre_normal_word.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_word m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def bitexact_Kernel_ReferenceWords_on_codes_and_scale_pre_normal_scale [hKernel : Cert.Kernel.Facts] [hReferenceWords : Cert.ReferenceWords.Facts] [hPre_normal_scale : Cert.Pre_normal_scale.Facts] [hOn_codes_and_scale : Cert.On_codes_and_scale.Facts] : Prop :=
  ∀ (m : (ℓ : Loc Cert.Kernel.nD Cert.Kernel.τ Cert.Kernel.sig) → Buf (Elt Bits) ℓ) (g : Dev Cert.Kernel.nD → PrngReg)
    (m' : (ℓ : Loc Cert.ReferenceWords.nD Cert.ReferenceWords.τ Cert.ReferenceWords.sig) → Buf (Elt Bits) ℓ) (g' : Dev Cert.ReferenceWords.nD → PrngReg), Pre_Kernel_normal_scale m →
    (∀ c : Dev Cert.Kernel.nD,
      m' ((c.tc : Thread Cert.ReferenceWords.nD Cert.ReferenceWords.τ).loc Cert.ReferenceWords.main_arg0) = m ((c.tc : Thread Cert.Kernel.nD Cert.Kernel.τ).loc Cert.Kernel.main_arg0)
      ∧ m' ((c.tc : Thread Cert.ReferenceWords.nD Cert.ReferenceWords.τ).loc Cert.ReferenceWords.main_arg1) = m ((c.tc : Thread Cert.Kernel.nD Cert.Kernel.τ).loc Cert.Kernel.main_arg1)
      ∧ m' ((c.tc : Thread Cert.ReferenceWords.nD Cert.ReferenceWords.τ).loc Cert.ReferenceWords.main_arg2) = m ((c.tc : Thread Cert.Kernel.nD Cert.Kernel.τ).loc Cert.Kernel.main_arg2)
      ∧ m' ((c.tc : Thread Cert.ReferenceWords.nD Cert.ReferenceWords.τ).loc Cert.ReferenceWords.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v3)) (v1 : (c : Dev Cert.Kernel.nD) → Buf (Elt Bits) ((c.tc : Thread Cert.Kernel.nD Cert.Kernel.τ).loc Cert.Kernel.main_v4)) (v2 : (c : Dev Cert.Kernel.nD) → Buf (Elt Bits) ((c.tc : Thread Cert.Kernel.nD Cert.Kernel.τ).loc Cert.Kernel.main_v2_2)),
      θ_run (Cert.Kernel.defs (F := Bits)) (onTc (τ := Cert.Kernel.τ) (Cert.Kernel.main (F := Bits))) ⟨m, fun _ => 0, g⟩ (fun r => ∀ c : Dev Cert.Kernel.nD,
          (∀ i : (⟨3, ![3, 256, 8192]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 i = 1#1 → r.2.mem ((c.tc : Thread Cert.Kernel.nD Cert.Kernel.τ).loc Cert.Kernel.main_v3) i = v0 c i)
          ∧ (∀ i : (⟨3, ![3, 256, 4096]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 i = 1#1 → r.2.mem ((c.tc : Thread Cert.Kernel.nD Cert.Kernel.τ).loc Cert.Kernel.main_v4) i = v1 c i)
          ∧ (∀ i : (⟨1, ![1]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 i = 1#1 → r.2.mem ((c.tc : Thread Cert.Kernel.nD Cert.Kernel.τ).loc Cert.Kernel.main_v2_2) i = v2 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.ReferenceWords.defs (F := Bits)) (onTc (τ := Cert.ReferenceWords.τ) (Cert.ReferenceWords.main (F := Bits))) ⟨m', fun _ => 0, g'⟩ (fun r => ∀ c : Dev Cert.ReferenceWords.nD,
          (∀ i : (⟨3, ![3, 256, 8192]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 i = 1#1 → r.2.mem ((c.tc : Thread Cert.ReferenceWords.nD Cert.ReferenceWords.τ).loc Cert.ReferenceWords.main_v3) i = v0 c i)
          ∧ (∀ i : (⟨3, ![3, 256, 4096]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 i = 1#1 → r.2.mem ((c.tc : Thread Cert.ReferenceWords.nD Cert.ReferenceWords.τ).loc Cert.ReferenceWords.main_v4) i = v1 c i)
          ∧ (∀ i : (⟨1, ![1]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 i = 1#1 → r.2.mem ((c.tc : Thread Cert.ReferenceWords.nD Cert.ReferenceWords.τ).loc Cert.ReferenceWords.main_v2_2) i = v2 c i)
          ∧ r.2.mem ((c.tc : Thread Cert.ReferenceWords.nD Cert.ReferenceWords.τ).loc Cert.ReferenceWords.main_arg0) = m' ((c.tc : Thread Cert.ReferenceWords.nD Cert.ReferenceWords.τ).loc Cert.ReferenceWords.main_arg0)
          ∧ r.2.mem ((c.tc : Thread Cert.ReferenceWords.nD Cert.ReferenceWords.τ).loc Cert.ReferenceWords.main_arg1) = m' ((c.tc : Thread Cert.ReferenceWords.nD Cert.ReferenceWords.τ).loc Cert.ReferenceWords.main_arg1)
          ∧ r.2.mem ((c.tc : Thread Cert.ReferenceWords.nD Cert.ReferenceWords.τ).loc Cert.ReferenceWords.main_arg2) = m' ((c.tc : Thread Cert.ReferenceWords.nD Cert.ReferenceWords.τ).loc Cert.ReferenceWords.main_arg2)
          ∧ r.2.mem ((c.tc : Thread Cert.ReferenceWords.nD Cert.ReferenceWords.τ).loc Cert.ReferenceWords.main_arg3) = m' ((c.tc : Thread Cert.ReferenceWords.nD Cert.ReferenceWords.τ).loc Cert.ReferenceWords.main_arg3))

def preserves_KernelOfWord_KernelOfWordIdeal : Prop :=
  True

def algebraic_KernelOfWordIdeal_ReferenceIdeal_pre_normal_word [hKernelOfWordIdeal : Cert.KernelOfWordIdeal.Facts] [hReferenceIdeal : Cert.ReferenceIdeal.Facts] [hPre_normal_word : Cert.Pre_normal_word.Facts] : Prop :=
  ∀ (m : (ℓ : Loc Cert.KernelOfWordIdeal.nD Cert.KernelOfWordIdeal.τ Cert.KernelOfWordIdeal.sig) → Buf (Elt Ideal) ℓ) (g : Dev Cert.KernelOfWordIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelOfWordIdeal_normal_word m →
    (∀ c : Dev Cert.KernelOfWordIdeal.nD,
      m' ((c.tc : Thread Cert.ReferenceIdeal.nD Cert.ReferenceIdeal.τ).loc Cert.ReferenceIdeal.main_arg0) = m ((c.tc : Thread Cert.KernelOfWordIdeal.nD Cert.KernelOfWordIdeal.τ).loc Cert.KernelOfWordIdeal.main_arg0)
      ∧ m' ((c.tc : Thread Cert.ReferenceIdeal.nD Cert.ReferenceIdeal.τ).loc Cert.ReferenceIdeal.main_arg1) = m ((c.tc : Thread Cert.KernelOfWordIdeal.nD Cert.KernelOfWordIdeal.τ).loc Cert.KernelOfWordIdeal.main_arg1)
      ∧ m' ((c.tc : Thread Cert.ReferenceIdeal.nD Cert.ReferenceIdeal.τ).loc Cert.ReferenceIdeal.main_arg2) = m ((c.tc : Thread Cert.KernelOfWordIdeal.nD Cert.KernelOfWordIdeal.τ).loc Cert.KernelOfWordIdeal.main_arg2)
      ∧ m' ((c.tc : Thread Cert.ReferenceIdeal.nD Cert.ReferenceIdeal.τ).loc Cert.ReferenceIdeal.main_arg3) = m ((c.tc : Thread Cert.KernelOfWordIdeal.nD Cert.KernelOfWordIdeal.τ).loc Cert.KernelOfWordIdeal.main_arg3)) →
    ∃ (v0 : (c : Dev Cert.KernelOfWordIdeal.nD) → Buf (Elt Ideal) ((c.tc : Thread Cert.KernelOfWordIdeal.nD Cert.KernelOfWordIdeal.τ).loc Cert.KernelOfWordIdeal.main_v3)) (v1 : (c : Dev Cert.KernelOfWordIdeal.nD) → Buf (Elt Ideal) ((c.tc : Thread Cert.KernelOfWordIdeal.nD Cert.KernelOfWordIdeal.τ).loc Cert.KernelOfWordIdeal.main_v4)) (v2 : (c : Dev Cert.KernelOfWordIdeal.nD) → Buf (Elt Ideal) ((c.tc : Thread Cert.KernelOfWordIdeal.nD Cert.KernelOfWordIdeal.τ).loc Cert.KernelOfWordIdeal.main_v2_2)),
      θ_run (Cert.KernelOfWordIdeal.defs (F := Ideal)) (onTc (τ := Cert.KernelOfWordIdeal.τ) (Cert.KernelOfWordIdeal.main (F := Ideal))) ⟨m, fun _ => 0, g⟩ (fun r => ∀ c : Dev Cert.KernelOfWordIdeal.nD,
          r.2.mem ((c.tc : Thread Cert.KernelOfWordIdeal.nD Cert.KernelOfWordIdeal.τ).loc Cert.KernelOfWordIdeal.main_v3) = v0 c
          ∧ r.2.mem ((c.tc : Thread Cert.KernelOfWordIdeal.nD Cert.KernelOfWordIdeal.τ).loc Cert.KernelOfWordIdeal.main_v4) = v1 c
          ∧ r.2.mem ((c.tc : Thread Cert.KernelOfWordIdeal.nD Cert.KernelOfWordIdeal.τ).loc Cert.KernelOfWordIdeal.main_v2_2) = v2 c
          ∧ r.2.mem ((c.tc : Thread Cert.KernelOfWordIdeal.nD Cert.KernelOfWordIdeal.τ).loc Cert.KernelOfWordIdeal.main_arg0) = m ((c.tc : Thread Cert.KernelOfWordIdeal.nD Cert.KernelOfWordIdeal.τ).loc Cert.KernelOfWordIdeal.main_arg0)
          ∧ r.2.mem ((c.tc : Thread Cert.KernelOfWordIdeal.nD Cert.KernelOfWordIdeal.τ).loc Cert.KernelOfWordIdeal.main_arg1) = m ((c.tc : Thread Cert.KernelOfWordIdeal.nD Cert.KernelOfWordIdeal.τ).loc Cert.KernelOfWordIdeal.main_arg1)
          ∧ r.2.mem ((c.tc : Thread Cert.KernelOfWordIdeal.nD Cert.KernelOfWordIdeal.τ).loc Cert.KernelOfWordIdeal.main_arg2) = m ((c.tc : Thread Cert.KernelOfWordIdeal.nD Cert.KernelOfWordIdeal.τ).loc Cert.KernelOfWordIdeal.main_arg2)
          ∧ r.2.mem ((c.tc : Thread Cert.KernelOfWordIdeal.nD Cert.KernelOfWordIdeal.τ).loc Cert.KernelOfWordIdeal.main_arg3) = m ((c.tc : Thread Cert.KernelOfWordIdeal.nD Cert.KernelOfWordIdeal.τ).loc Cert.KernelOfWordIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hReferenceWords : Cert.ReferenceWords.Facts) (hKernelOfWord : Cert.KernelOfWord.Facts) (hKernelOfWordIdeal : Cert.KernelOfWordIdeal.Facts) (hReferenceIdeal : Cert.ReferenceIdeal.Facts) (hPre_normal_scale : Cert.Pre_normal_scale.Facts) (hPre_normal_word : Cert.Pre_normal_word.Facts) (hOn_codes_and_scale : Cert.On_codes_and_scale.Facts),
    quiescent_Kernel (hKernel := hKernel)
    ∧ quiescent_Kernel_pre_normal_scale (hKernel := hKernel) (hPre_normal_scale := hPre_normal_scale)
    ∧ quiescent_ReferenceWords (hReferenceWords := hReferenceWords) (hPre_normal_scale := hPre_normal_scale)
    ∧ quiescent_KernelOfWord (hKernelOfWord := hKernelOfWord)
    ∧ quiescent_KernelOfWordIdeal (hKernelOfWordIdeal := hKernelOfWordIdeal)
    ∧ quiescent_KernelOfWordIdeal_pre_normal_word (hKernelOfWordIdeal := hKernelOfWordIdeal) (hPre_normal_word := hPre_normal_word)
    ∧ quiescent_ReferenceIdeal (hReferenceIdeal := hReferenceIdeal)
    ∧ quiescent_ReferenceIdeal_pre_normal_word (hReferenceIdeal := hReferenceIdeal) (hPre_normal_word := hPre_normal_word)
    ∧ bitexact_Kernel_ReferenceWords_on_codes_and_scale_pre_normal_scale (hKernel := hKernel) (hReferenceWords := hReferenceWords) (hPre_normal_scale := hPre_normal_scale) (hOn_codes_and_scale := hOn_codes_and_scale)
    ∧ preserves_KernelOfWord_KernelOfWordIdeal
    ∧ algebraic_KernelOfWordIdeal_ReferenceIdeal_pre_normal_word (hKernelOfWordIdeal := hKernelOfWordIdeal) (hReferenceIdeal := hReferenceIdeal) (hPre_normal_word := hPre_normal_word)
-- ==== On_codes_and_scale.lean ====
abbrev S3x256x4096 : Shape := ⟨3, ![3, 256, 4096]⟩
abbrev S1 : Shape := ⟨1, ![1]⟩
abbrev S4096x8192 : Shape := ⟨2, ![4096, 8192]⟩
abbrev S8192 : Shape := ⟨1, ![8192]⟩
abbrev S_ : Shape := ⟨0, ![]⟩
abbrev S3x256x8192 : Shape := ⟨3, ![3, 256, 8192]⟩

class Facts : Prop where
  bcast_S_S3x256x8192 : S_.BroadcastsInDim S3x256x8192 (![] : Fin 0 → Fin S3x256x8192.rank)
  bcast_S_S3x256x4096 : S_.BroadcastsInDim S3x256x4096 (![] : Fin 0 → Fin S3x256x4096.rank)
  bcast_S_S1 : S_.BroadcastsInDim S1 (![] : Fin 0 → Fin S1.rank)

variable [Facts]

def fn {F : FTy → Type} [FloatOps F] (main_arg0 : FVec F S3x256x4096 .bf16) (main_arg1 : FVec F S1 .f32) (main_arg2 : FVec F S4096x8192 .fp8e4m3) (main_arg3 : FVec F S8192 .f32) : IVec S3x256x8192 1 × IVec S3x256x4096 1 × IVec S1 1 :=
  let main_c : IVec S_ 1 := constantI S_ 1 0#1
  let main_v0 : IVec S3x256x8192 1 := broadcastInDim S3x256x8192 ![] bcast_S_S3x256x8192 main_c
  let main_c_0 : IVec S_ 1 := constantI S_ 1 1#1
  let main_v1 : IVec S3x256x4096 1 := broadcastInDim S3x256x4096 ![] bcast_S_S3x256x4096 main_c_0
  let main_c_1 : IVec S_ 1 := constantI S_ 1 1#1
  let main_v2 : IVec S1 1 := broadcastInDim S1 ![] bcast_S_S1 main_c_1
  (main_v0, main_v1, main_v2)
-- ==== Pre_normal_scale.lean ====
abbrev S3x256x4096 : Shape := ⟨3, ![3, 256, 4096]⟩
abbrev S1 : Shape := ⟨1, ![1]⟩
abbrev S4096x8192 : Shape := ⟨2, ![4096, 8192]⟩
abbrev S8192 : Shape := ⟨1, ![8192]⟩
abbrev S_ : Shape := ⟨0, ![]⟩

class Facts : Prop where
  bcast_S_S1 : S_.BroadcastsInDim S1 (![] : Fin 0 → Fin S1.rank)

variable [Facts]

def fn {F : FTy → Type} [BitOps F] (main_arg0 : FVec F S3x256x4096 .bf16) (main_arg1 : FVec F S1 .f32) (main_arg2 : FVec F S4096x8192 .fp8e4m3) (main_arg3 : FVec F S8192 .f32) : IVec S1 1 :=
  let main_v0 : IVec S1 32 := bitcastToInt main_arg1
  let main_c : IVec S_ 32 := constantI S_ 32 23#32
  let main_v1 : IVec S1 32 := broadcastInDim S1 ![] bcast_S_S1 main_c
  let main_v2 : IVec S1 32 := Host.shrsi main_v0 main_v1
  let main_c_0 : IVec S_ 32 := constantI S_ 32 255#32
  let main_v3 : IVec S1 32 := broadcastInDim S1 ![] bcast_S_S1 main_c_0
  let main_v4 : IVec S1 32 := andi main_v2 main_v3
  let main_c_1 : IVec S_ 32 := constantI S_ 32 1#32
  let main_v5 : IVec S1 32 := broadcastInDim S1 ![] bcast_S_S1 main_c_1
  let main_v6 : IVec S1 1 := cmpi .sge main_v4 main_v5
  let main_c_2 : IVec S_ 32 := constantI S_ 32 254#32
  let main_v7 : IVec S1 32 := broadcastInDim S1 ![] bcast_S_S1 main_c_2
  let main_v8 : IVec S1 1 := cmpi .sle main_v4 main_v7
  let main_v9 : IVec S1 1 := andi main_v6 main_v8
  main_v9
-- ==== Pre_normal_word.lean ====
abbrev S3x256x4096 : Shape := ⟨3, ![3, 256, 4096]⟩
abbrev S1 : Shape := ⟨1, ![1]⟩
abbrev S4096x8192 : Shape := ⟨2, ![4096, 8192]⟩
abbrev S8192 : Shape := ⟨1, ![8192]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S3x256x4096 .bf16) (main_arg1 : IVec S1 32) (main_arg2 : FVec F S4096x8192 .fp8e4m3) (main_arg3 : FVec F S8192 .f32) : IVec S1 1 :=
  let main_c : IVec S_ 32 := constantI S_ 32 23#32
  let main_v0 : IVec S1 32 := broadcastInDim S1 ![] bcast_S_S1 main_c
  let main_v1 : IVec S1 32 := Host.shrsi main_arg1 main_v0
  let main_c_0 : IVec S_ 32 := constantI S_ 32 255#32
  let main_v2 : IVec S1 32 := broadcastInDim S1 ![] bcast_S_S1 main_c_0
  let main_v3 : IVec S1 32 := andi main_v1 main_v2
  let main_c_1 : IVec S_ 32 := constantI S_ 32 1#32
  let main_v4 : IVec S1 32 := broadcastInDim S1 ![] bcast_S_S1 main_c_1
  let main_v5 : IVec S1 1 := cmpi .sge main_v3 main_v4
  let main_c_2 : IVec S_ 32 := constantI S_ 32 253#32
  let main_v6 : IVec S1 32 := broadcastInDim S1 ![] bcast_S_S1 main_c_2
  let main_v7 : IVec S1 1 := cmpi .sle main_v3 main_v6
  let main_v8 : IVec S1 1 := andi main_v5 main_v7
  main_v8
-- ==== Kernel.lean ====
abbrev S3x256x4096 : Shape := ⟨3, ![3, 256, 4096]⟩
abbrev S1 : Shape := ⟨1, ![1]⟩
abbrev S4096x8192 : Shape := ⟨2, ![4096, 8192]⟩
abbrev S8192 : Shape := ⟨1, ![8192]⟩
abbrev S768x4096 : Shape := ⟨2, ![768, 4096]⟩
abbrev S1x8192 : Shape := ⟨2, ![1, 8192]⟩
abbrev S96x8x8192 : Shape := ⟨3, ![96, 8, 8192]⟩
abbrev S4096x1024 : Shape := ⟨2, ![4096, 1024]⟩
abbrev S1x1024 : Shape := ⟨2, ![1, 1024]⟩
abbrev S96x8x1024 : Shape := ⟨3, ![96, 8, 1024]⟩
abbrev S8x128 : Shape := ⟨2, ![8, 128]⟩
abbrev S1x1 : Shape := ⟨2, ![1, 1]⟩
abbrev S768x1024 : Shape := ⟨2, ![768, 1024]⟩
abbrev S3x256x8192 : Shape := ⟨3, ![3, 256, 8192]⟩

abbrev nBuf : Space → Nat
  | .hbm => 11
  | .vmem => 8
  | .smem => 2
  | _ => 0

abbrev bufTy : (tb : Table) → Fin (tcTables nBuf tb) → BufTy
  | .hbm, ⟨0, _⟩ => ⟨S3x256x4096, .bf16⟩
  | .hbm, ⟨1, _⟩ => ⟨S1, .f32⟩
  | .hbm, ⟨2, _⟩ => ⟨S4096x8192, .fp8e4m3⟩
  | .hbm, ⟨3, _⟩ => ⟨S8192, .f32⟩
  | .hbm, ⟨4, _⟩ => ⟨S768x4096, .bf16⟩
  | .hbm, ⟨5, _⟩ => ⟨S1x8192, .f32⟩
  | .hbm, ⟨6, _⟩ => ⟨S96x8x8192, .bf16⟩
  | .hbm, ⟨7, _⟩ => ⟨S768x4096, .fp8e4m3⟩
  | .hbm, ⟨8, _⟩ => ⟨S1, .f32⟩
  | .hbm, ⟨9, _⟩ => ⟨S3x256x8192, .bf16⟩
  | .hbm, ⟨10, _⟩ => ⟨S3x256x4096, .fp8e4m3⟩
  | .local _ .vmem, ⟨0, _⟩ => ⟨S768x4096, .bf16⟩
  | .local _ .vmem, ⟨1, _⟩ => ⟨S4096x1024, .fp8e4m3⟩
  | .local _ .vmem, ⟨2, _⟩ => ⟨S4096x1024, .fp8e4m3⟩
  | .local _ .vmem, ⟨3, _⟩ => ⟨S1x1024, .f32⟩
  | .local _ .vmem, ⟨4, _⟩ => ⟨S1x1024, .f32⟩
  | .local _ .vmem, ⟨5, _⟩ => ⟨S96x8x1024, .bf16⟩
  | .local _ .vmem, ⟨6, _⟩ => ⟨S96x8x1024, .bf16⟩
  | .local _ .vmem, ⟨7, _⟩ => ⟨S768x4096, .fp8e4m3⟩
  | .local _ .smem, ⟨0, _⟩ => ⟨S1, .f32⟩
  | .local _ .smem, ⟨1, _⟩ => ⟨S1, .f32⟩
  | _, _ => ⟨S3x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg0_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [BitOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceWords.lean ====
abbrev S3x256x4096 : Shape := ⟨3, ![3, 256, 4096]⟩
abbrev S1 : Shape := ⟨1, ![1]⟩
abbrev S4096x8192 : Shape := ⟨2, ![4096, 8192]⟩
abbrev S8192 : Shape := ⟨1, ![8192]⟩
abbrev S768x4096 : Shape := ⟨2, ![768, 4096]⟩
abbrev S1x8192 : Shape := ⟨2, ![1, 8192]⟩
abbrev S768x8192 : Shape := ⟨2, ![768, 8192]⟩
abbrev S1x1 : Shape := ⟨2, ![1, 1]⟩
abbrev S3x256x8192 : Shape := ⟨3, ![3, 256, 8192]⟩

abbrev nBuf : Space → Nat
  | .hbm => 11
  | .vmem => 5
  | .smem => 2
  | _ => 0

abbrev bufTy : (tb : Table) → Fin (tcTables nBuf tb) → BufTy
  | .hbm, ⟨0, _⟩ => ⟨S3x256x4096, .bf16⟩
  | .hbm, ⟨1, _⟩ => ⟨S1, .f32⟩
  | .hbm, ⟨2, _⟩ => ⟨S4096x8192, .fp8e4m3⟩
  | .hbm, ⟨3, _⟩ => ⟨S8192, .f32⟩
  | .hbm, ⟨4, _⟩ => ⟨S768x4096, .bf16⟩
  | .hbm, ⟨5, _⟩ => ⟨S1x8192, .f32⟩
  | .hbm, ⟨6, _⟩ => ⟨S768x8192, .bf16⟩
  | .hbm, ⟨7, _⟩ => ⟨S768x4096, .fp8e4m3⟩
  | .hbm, ⟨8, _⟩ => ⟨S1, .f32⟩
  | .hbm, ⟨9, _⟩ => ⟨S3x256x8192, .bf16⟩
  | .hbm, ⟨10, _⟩ => ⟨S3x256x4096, .fp8e4m3⟩
  | .local _ .vmem, ⟨0, _⟩ => ⟨S768x4096, .bf16⟩
  | .local _ .vmem, ⟨1, _⟩ => ⟨S4096x8192, .fp8e4m3⟩
  | .local _ .vmem, ⟨2, _⟩ => ⟨S1x8192, .f32⟩
  | .local _ .vmem, ⟨3, _⟩ => ⟨S768x8192, .bf16⟩
  | .local _ .vmem, ⟨4, _⟩ => ⟨S768x4096, .fp8e4m3⟩
  | .local _ .smem, ⟨0, _⟩ => ⟨S1, .f32⟩
  | .local _ .smem, ⟨1, _⟩ => ⟨S1, .f32⟩
  | _, _ => ⟨S3x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelOfWord.lean ====
abbrev S3x256x4096 : Shape := ⟨3, ![3, 256, 4096]⟩
abbrev S1 : Shape := ⟨1, ![1]⟩
abbrev S4096x8192 : Shape := ⟨2, ![4096, 8192]⟩
abbrev S8192 : Shape := ⟨1, ![8192]⟩
abbrev S768x4096 : Shape := ⟨2, ![768, 4096]⟩
abbrev S1x8192 : Shape := ⟨2, ![1, 8192]⟩
abbrev S96x8x8192 : Shape := ⟨3, ![96, 8, 8192]⟩
abbrev S4096x1024 : Shape := ⟨2, ![4096, 1024]⟩
abbrev S1x1024 : Shape := ⟨2, ![1, 1024]⟩
abbrev S96x8x1024 : Shape := ⟨3, ![96, 8, 1024]⟩
abbrev S8x128 : Shape := ⟨2, ![8, 128]⟩
abbrev S1x1 : Shape := ⟨2, ![1, 1]⟩
abbrev S768x1024 : Shape := ⟨2, ![768, 1024]⟩
abbrev S3x256x8192 : Shape := ⟨3, ![3, 256, 8192]⟩

abbrev nBuf : Space → Nat
  | .hbm => 11
  | .vmem => 8
  | .smem => 2
  | _ => 0

abbrev bufTy : (tb : Table) → Fin (tcTables nBuf tb) → BufTy
  | .hbm, ⟨0, _⟩ => ⟨S3x256x4096, .bf16⟩
  | .hbm, ⟨1, _⟩ => ⟨S1, .i32⟩
  | .hbm, ⟨2, _⟩ => ⟨S4096x8192, .fp8e4m3⟩
  | .hbm, ⟨3, _⟩ => ⟨S8192, .f32⟩
  | .hbm, ⟨4, _⟩ => ⟨S768x4096, .bf16⟩
  | .hbm, ⟨5, _⟩ => ⟨S1x8192, .f32⟩
  | .hbm, ⟨6, _⟩ => ⟨S96x8x8192, .bf16⟩
  | .hbm, ⟨7, _⟩ => ⟨S768x4096, .fp8e4m3⟩
  | .hbm, ⟨8, _⟩ => ⟨S1, .f32⟩
  | .hbm, ⟨9, _⟩ => ⟨S3x256x8192, .bf16⟩
  | .hbm, ⟨10, _⟩ => ⟨S3x256x4096, .fp8e4m3⟩
  | .local _ .vmem, ⟨0, _⟩ => ⟨S768x4096, .bf16⟩
  | .local _ .vmem, ⟨1, _⟩ => ⟨S4096x1024, .fp8e4m3⟩
  | .local _ .vmem, ⟨2, _⟩ => ⟨S4096x1024, .fp8e4m3⟩
  | .local _ .vmem, ⟨3, _⟩ => ⟨S1x1024, .f32⟩
  | .local _ .vmem, ⟨4, _⟩ => ⟨S1x1024, .f32⟩
  | .local _ .vmem, ⟨5, _⟩ => ⟨S96x8x1024, .bf16⟩
  | .local _ .vmem, ⟨6, _⟩ => ⟨S96x8x1024, .bf16⟩
  | .local _ .vmem, ⟨7, _⟩ => ⟨S768x4096, .fp8e4m3⟩
  | .local _ .smem, ⟨0, _⟩ => ⟨S1, .i32⟩
  | .local _ .smem, ⟨1, _⟩ => ⟨S1, .f32⟩
  | _, _ => ⟨S3x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg0_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S768x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S3x256x4096 : Shape := ⟨3, ![3, 256, 4096]⟩
abbrev S1 : Shape := ⟨1, ![1]⟩
abbrev S4096x8192 : Shape := ⟨2, ![4096, 8192]⟩
abbrev S8192 : Shape := ⟨1, ![8192]⟩
abbrev S768x4096 : Shape := ⟨2, ![768, 4096]⟩
abbrev S1x8192 : Shape := ⟨2, ![1, 8192]⟩
abbrev S768x8192 : Shape := ⟨2, ![768, 8192]⟩
abbrev S1x256 : Shape := ⟨2, ![1, 256]⟩
abbrev S1x1 : Shape := ⟨2, ![1, 1]⟩
abbrev S3x256x8192 : Shape := ⟨3, ![3, 256, 8192]⟩

abbrev nBuf : Space → Nat
  | .hbm => 11
  | .vmem => 5
  | .smem => 2
  | _ => 0

abbrev bufTy : (tb : Table) → Fin (tcTables nBuf tb) → BufTy
  | .hbm, ⟨0, _⟩ => ⟨S3x256x4096, .bf16⟩
  | .hbm, ⟨1, _⟩ => ⟨S1, .i32⟩
  | .hbm, ⟨2, _⟩ => ⟨S4096x8192, .fp8e4m3⟩
  | .hbm, ⟨3, _⟩ => ⟨S8192, .f32⟩
  | .hbm, ⟨4, _⟩ => ⟨S768x4096, .bf16⟩
  | .hbm, ⟨5, _⟩ => ⟨S1x8192, .f32⟩
  | .hbm, ⟨6, _⟩ => ⟨S768x8192, .bf16⟩
  | .hbm, ⟨7, _⟩ => ⟨S768x4096, .fp8e4m3⟩
  | .hbm, ⟨8, _⟩ => ⟨S1, .f32⟩
  | .hbm, ⟨9, _⟩ => ⟨S3x256x8192, .bf16⟩
  | .hbm, ⟨10, _⟩ => ⟨S3x256x4096, .fp8e4m3⟩
  | .local _ .vmem, ⟨0, _⟩ => ⟨S768x4096, .bf16⟩
  | .local _ .vmem, ⟨1, _⟩ => ⟨S4096x8192, .fp8e4m3⟩
  | .local _ .vmem, ⟨2, _⟩ => ⟨S1x8192, .f32⟩
  | .local _ .vmem, ⟨3, _⟩ => ⟨S768x8192, .bf16⟩
  | .local _ .vmem, ⟨4, _⟩ => ⟨S768x4096, .fp8e4m3⟩
  | .local _ .smem, ⟨0, _⟩ => ⟨S1, .i32⟩
  | .local _ .smem, ⟨1, _⟩ => ⟨S1, .f32⟩
  | _, _ => ⟨S3x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg0_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelOfWordIdealRun.lean ====
/- The run of `proofs.«01_k».proof.KernelOfWordIdeal`, by hand where the generated certificate stops: the body stores the codes and the scale at
   the first grid point only, later points read the codes back, and both are written back after the last point. So after
   every point their buffers hold the same contents, the ones of the first point; the product's buffer holds the column block of the
   point. -/
module

public import proofs.«01_k».proof.Proof.Gen.KernelOfWordIdeal.Frame
public import proofs.«01_k».proof.Proof.Gen.KernelOfWordIdeal.Skeleton
public import Idealize.ShloMosaic.Lib.Pipeline.ValueKit
public import Idealize.ShloMosaic.Lib.Pipeline.TableIdle
public import Idealize.ShloMosaic.Lib.Claim

@[expose] public section

set_option maxRecDepth 16384

noncomputable section

namespace Cert.KernelOfWordIdeal.Run

open Cert.KernelOfWordIdeal Cert.KernelOfWordIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A scalar load of a one-word block is its word. -/
theorem ld_first {e : EltTy} (x : Vec F S1 e) (h') :
    View.ld x (Rect.unit (s := S1) ![0] ![1] inb_S1_S1_0) (Shape.Idx.first h') = x (ix1 0) := by
  unfold View.ld; exact congrArg x (funext fun a => by fin_cases a; exact Subsingleton.elim (α := Fin 1) _ _)

/-- What the body leaves in the codes' buffer at the first point: the quantised operand. -/
abbrev codesOf (x0 : Vec F S1 .i32) (x1 : Vec F S768x4096 .bf16) : Vec F S768x4096 .fp8e4m3 := k0_pay2 (x0 (ix1 0)) x1
/-- What it leaves in the product's buffer, the codes at hand being `x5`. -/
abbrev blockOf (x0 : Vec F S1 .i32) (x5 : Vec F S768x4096 .fp8e4m3) (x2 : Vec F S4096x1024 .fp8e4m3) (x3 : Vec F S1x1024 .f32) : Vec F S96x8x1024 .bf16 := k0_pay3 (x0 (ix1 0)) (x5) x2 x3
/-- What it leaves in the scale's buffer at the first point. -/
abbrev scaleOf (x0 : Vec F S1 .i32) : Vec F S1 .f32 := fun _ => k0_pay1 (x0 (ix1 0))

set_option maxHeartbeats 1000000 in
/-- The body at the first point: from the operands' blocks it leaves the codes, the scale and the first column block. -/
theorem run_first (c : Dev nD) (i : grid0.Coords) (arg1 : Memref sig .tc .smem S1 .i32) (harg1 : arg1.IsWhole) (arg2 : Memref sig .tc .vmem S768x4096 .bf16) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S96x8x1024 .bf16) (harg5 : arg5.IsWhole) (arg6 : Memref sig .tc .vmem S768x4096 .fp8e4m3) (harg6 : arg6.IsWhole) (arg7 : Memref sig .tc .smem S1 .f32) (harg7 : arg7.IsWhole) (hc0 : k0_cond1 i = 1#1)
    (x0 : Vec F S1 .i32) (x1 : Vec F S768x4096 .bf16) (x2 : Vec F S4096x1024 .fp8e4m3) (x3 : Vec F S1x1024 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blockOf x0 (codesOf x0 x1) x2 x3) ∗ owns (c : Thread nD τ) arg6 fullShare (codesOf x0 x1) ∗ owns (c : Thread nD τ) arg7 fullShare (scaleOf x0)) -∗ K ⟨⟩))
          ⊢ wp frame (wpE (defs₀ (F := F)) Variants.none c none) E (cc0__body_of_word i arg1 harg1 arg2 harg2 arg3 harg3 arg4 harg4 arg5 harg5 arg6 harg6 arg7 harg7) K := by
    simp only [cc0__body_of_word_eq_skeleton]; unfold cc0__body_of_word_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_eq_canon _ _ _ (fun y => View.cover_of_tiledL _ S96x8x1024.size (by sl_kernel_rfl) y)).trans ?_
      frame_out
      rw [ld_first]
    isplitl [H5]
    · iexists _; isplitr; swap; · iexact H5
      ipureintro
      refine (View.read_writes_eq_canon _ _ _ (fun y => View.cover_of_tiledL _ S768x4096.size (by sl_kernel_rfl) y)).trans ?_
      frame_out
      rw [ld_first]
    iexists _; isplitr; swap; · iexact H6
    ipureintro
    refine (View.read_writes_eq_canon _ _ _ (fun y => View.cover_of_tiledL _ S1.size (by sl_kernel_rfl) y)).trans ?_
    frame_out
    rw [ld_first]; rfl

set_option maxHeartbeats 1000000 in
/-- The body at a later point: from the operands' blocks and the codes kept from the first point it leaves the point's column
    block, the codes and the scale's buffer as they were. -/
theorem run_later (c : Dev nD) (i : grid0.Coords) (arg1 : Memref sig .tc .smem S1 .i32) (harg1 : arg1.IsWhole) (arg2 : Memref sig .tc .vmem S768x4096 .bf16) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S96x8x1024 .bf16) (harg5 : arg5.IsWhole) (arg6 : Memref sig .tc .vmem S768x4096 .fp8e4m3) (harg6 : arg6.IsWhole) (arg7 : Memref sig .tc .smem S1 .f32) (harg7 : arg7.IsWhole) (hc0 : ¬k0_cond1 i = 1#1)
    (x0 : Vec F S1 .i32) (x1 : Vec F S768x4096 .bf16) (x2 : Vec F S4096x1024 .fp8e4m3) (x3 : Vec F S1x1024 .f32) (x5 : Vec F S768x4096 .fp8e4m3) (x6 : Vec F S1 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blockOf x0 x5 x2 x3) ∗ owns (c : Thread nD τ) arg6 fullShare x5 ∗ owns (c : Thread nD τ) arg7 fullShare x6) -∗ K ⟨⟩))
          ⊢ wp frame (wpE (defs₀ (F := F)) Variants.none c none) E (cc0__body_of_word i arg1 harg1 arg2 harg2 arg3 harg3 arg4 harg4 arg5 harg5 arg6 harg6 arg7 harg7) K := by
    simp only [cc0__body_of_word_eq_skeleton]; unfold cc0__body_of_word_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_eq_canon _ _ _ (fun y => View.cover_of_tiledL _ S96x8x1024.size (by sl_kernel_rfl) y)).trans ?_
      frame_out
      rw [ld_first]
    isplitl [H5]
    · iexists _; isplitr; · ipureintro; exact harg6.read_unread _
      iexact H5
    iexists _; isplitr; · ipureintro; exact hf6
    iexact H6

/-! ## The grid points -/

/-- The branch of the body holds at the first point only. -/
theorem first_iff : ∀ t : Fin cfg0.N, k0_cond1 (grid0.coords t) = 1#1 ↔ t.val = 0 :=
  (fun t => by
    have ht : t.val < 8 := Nat.lt_of_lt_of_eq t.isLt N_0
    have e0 : (grid0.coords t 0).val = t.val / 1 % 8 := Pipeline.Grid.coords_val t 0 (by decide) rfl
    have h : k0_cond1 (grid0.coords t) = 1#1 ↔ t.val % 8 = 0 := by
      simp only [k0_cond1, e0]
      word_cmp
    rw [h]; omega
   : ∀ t : Fin grid0.N, k0_cond1 (grid0.coords t) = 1#1 ↔ t.val = 0)

/-- The windows of the operands and of the product are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- The windows of the codes and of the scale are idle after the first point. -/
theorem idle0_5 (t : Fin cfg0.N) : cfg0.idle 5 (grid0.coords t) = !(decide (t.val = 0)) := by
  show (!(k0_cond1 (grid0.coords t) == 1#1)) = _
  by_cases h : t.val = 0
  · rw [(first_iff t).mpr h]; simp [h]
  · rw [beq_eq_false_iff_ne.mpr fun e => h ((first_iff t).mp e)]; simp [h]
theorem idle0_6 (t : Fin cfg0.N) : cfg0.idle 6 (grid0.coords t) = !(decide (t.val = 0)) := idle0_5 t

/-- Their buffers hold nothing of the run before the first point only. -/
theorem fresh0_5 (t : Fin cfg0.N) : cfg0.fresh 5 t.val = decide (t.val = 0) := by
  have hN : t.val < 8 := lt_of_lt_of_eq t.isLt (show cfg0.N = 8 from N_0)
  rw [cfg0.fresh_tab 5 (fun n => decide (n % 8 = 0)) rfl (fun t => ?_) t.val (Nat.le_of_lt t.isLt)]
  · exact decide_eq_decide.mpr (by omega)
  · have hN : t.val < 8 := lt_of_lt_of_eq t.isLt (show cfg0.N = 8 from N_0)
    have hf := flush0_5 t
    rw [idle0_5]
    cases hb : (cfg0.win 5).flush t
    · have : ¬ t.val % 8 = 7 := fun h => by rw [hf.mpr h] at hb; exact absurd hb (by decide)
      by_cases h : t.val = 0
      · simp [h]
      · have h1 : ¬ (t.val + 1) % 8 = 0 := by omega
        have h2 : ¬ t.val % 8 = 0 := by omega
        simp [h1, h2]
    · have : t.val % 8 = 7 := hf.mp hb
      have h1 : (t.val + 1) % 8 = 0 := by omega
      simp [h1]
theorem fresh0_6 (t : Fin cfg0.N) : cfg0.fresh 6 t.val = decide (t.val = 0) := by
  have hN : t.val < 8 := lt_of_lt_of_eq t.isLt (show cfg0.N = 8 from N_0)
  rw [cfg0.fresh_tab 6 (fun n => decide (n % 8 = 0)) rfl (fun t => ?_) t.val (Nat.le_of_lt t.isLt)]
  · exact decide_eq_decide.mpr (by omega)
  · have hN : t.val < 8 := lt_of_lt_of_eq t.isLt (show cfg0.N = 8 from N_0)
    have hf := flush0_6 t
    rw [idle0_6]
    cases hb : (cfg0.win 6).flush t
    · have : ¬ t.val % 8 = 7 := fun h => by rw [hf.mpr h] at hb; exact absurd hb (by decide)
      by_cases h : t.val = 0
      · simp [h]
      · have h1 : ¬ (t.val + 1) % 8 = 0 := by omega
        have h2 : ¬ t.val % 8 = 0 := by omega
        simp [h1, h2]
    · have : t.val % 8 = 7 := hf.mp hb
      have h1 : (t.val + 1) % 8 = 0 := by omega
      simp [h1]

/-! ## The proof data -/

/-- Each window's current staging memref at point `t`, and its wholeness. -/
abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x8x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1 .f32 := win0_6.stage (cfg0.slots t 6)
abbrev hs0_6 (t : Fin cfg0.N) : (ms0_6 t).IsWhole := hstage0_6 ((cfg0.slots t 6).cast nbuf0_6)

variable (m : (ℓ : Loc nD τ sig) → Buf (Elt F) ℓ) (ρ : Dev nD → PrngReg)

/-- The first point. -/
def tFirst : Fin cfg0.N := ⟨0, by rw [show cfg0.N = 8 from N_0]; decide⟩

/-- The codes of the run and its scale: the first point's. -/
def codes (c : Dev nD) : Vec F S768x4096 .fp8e4m3 := codesOf (iblk m c 0 tFirst) (iblk m c 1 tFirst)
def scale (c : Dev nD) : Vec F S1 .f32 := scaleOf (iblk m c 0 tFirst)
/-- The product's column block at point `t`. -/
def block (c : Dev nD) (t : Fin cfg0.N) : Vec F S96x8x1024 .bf16 := blockOf (iblk m c 0 t) (codes m c) (iblk m c 2 t) (iblk m c 3 t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c t
    | ⟨5, _⟩ => codes m c
    | ⟨6, _⟩ => scale m c
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = block m c t := by dsimp only [dats]
theorem after0_5 (c : Dev nD) (t : Fin cfg0.N) : (dats m 0 c).after 5 t = codes m c := by dsimp only [dats]
theorem after0_6 (c : Dev nD) (t : Fin cfg0.N) : (dats m 0 c).after 6 t = scale m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- After the first point the codes' buffer holds the codes when the body begins, and the scale's the scale. -/
theorem before0_5 (c : Dev nD) (t : Fin cfg0.N) (ht : ¬t.val = 0) (d) : (dats m 0 c).before 5 t d = codes m c := by
  rw [(dats m 0 c).before_out_traj 5 rfl (fun _ _ => rfl) (fun t _ _ _ => by rw [after0_5, after0_5]) t.val t rfl d, fresh0_5,
    if_neg (by simpa using ht), after0_5]
theorem before0_6 (c : Dev nD) (t : Fin cfg0.N) (ht : ¬t.val = 0) (d) : (dats m 0 c).before 6 t d = scale m c := by
  rw [(dats m 0 c).before_out_traj 6 rfl (fun _ _ => rfl) (fun t _ _ _ => by rw [after0_6, after0_6]) t.val t rfl d, fresh0_6,
    if_neg (by simpa using ht), after0_6]

/-- At any point, a buffer that holds the run's codes is as the certificate says the body leaves it. -/
theorem leaves0_5 (c : Dev nD) (t : Fin cfg0.N) :
    owns (c : Thread nD τ) (ms0_5 t) fullShare (codes m c) ⊢ ((dats m 0 c).leavesExact 5 t : sProp 𝕄) := by
  by_cases ht : t.val = 0
  · rw [show (dats m 0 c).leavesExact 5 t = owns (c : Thread nD τ) (ms0_5 t) fullShare ((dats m 0 c).after 5 t) from by
      unfold Dat.leavesExact; rw [show cfg0.idle 5 (cfg0.grid.coords t) = false from (idle0_5 t).trans (by simp [ht])], after0_5]
  · have hi : cfg0.idle 5 (cfg0.grid.coords t) = true := (idle0_5 t).trans (by simp [ht])
    cases hf : (cfg0.win 5).flush t
    · rw [(dats m 0 c).leavesExact_idle 5 t hi hf]
      iintro H
      iexists fun _ => default
      rw [before0_5 m c t ht]
      iexact H
    · rw [show (dats m 0 c).leavesExact 5 t = owns (c : Thread nD τ) (ms0_5 t) fullShare ((dats m 0 c).after 5 t) from by
        unfold Dat.leavesExact; rw [hi, hf], after0_5]
theorem leaves0_6 (c : Dev nD) (t : Fin cfg0.N) :
    owns (c : Thread nD τ) (ms0_6 t) fullShare (scale m c) ⊢ ((dats m 0 c).leavesExact 6 t : sProp 𝕄) := by
  by_cases ht : t.val = 0
  · rw [show (dats m 0 c).leavesExact 6 t = owns (c : Thread nD τ) (ms0_6 t) fullShare ((dats m 0 c).after 6 t) from by
      unfold Dat.leavesExact; rw [show cfg0.idle 6 (cfg0.grid.coords t) = false from (idle0_6 t).trans (by simp [ht])], after0_6]
  · have hi : cfg0.idle 6 (cfg0.grid.coords t) = true := (idle0_6 t).trans (by simp [ht])
    cases hf : (cfg0.win 6).flush t
    · rw [(dats m 0 c).leavesExact_idle 6 t hi hf]
      iintro H
      iexists fun _ => default
      rw [before0_6 m c t ht]
      iexact H
    · rw [show (dats m 0 c).leavesExact 6 t = owns (c : Thread nD τ) (ms0_6 t) fullShare ((dats m 0 c).after 6 t) from by
        unfold Dat.leavesExact; rw [hi, hf], after0_6]

/-! ## The body obligation -/

/-- What the body is called with at point `t`, the windows one by one, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  by_cases h0 : t.val = 0
  · obtain rfl : t = tFirst := Fin.ext h0
    rw [show (dats m 0 c).leavesExact 0 tFirst = owns (c : Thread nD τ) (ms0_0 tFirst) fullShare ((dats m 0 c).after 0 tFirst) from by
      unfold Dat.leavesExact; rw [liveAt0_0 tFirst], after0_0]
    rw [show (dats m 0 c).leavesExact 1 tFirst = owns (c : Thread nD τ) (ms0_1 tFirst) fullShare ((dats m 0 c).after 1 tFirst) from by
      unfold Dat.leavesExact; rw [liveAt0_1 tFirst], after0_1]
    rw [show (dats m 0 c).leavesExact 2 tFirst = owns (c : Thread nD τ) (ms0_2 tFirst) fullShare ((dats m 0 c).after 2 tFirst) from by
      unfold Dat.leavesExact; rw [liveAt0_2 tFirst], after0_2]
    rw [show (dats m 0 c).leavesExact 3 tFirst = owns (c : Thread nD τ) (ms0_3 tFirst) fullShare ((dats m 0 c).after 3 tFirst) from by
      unfold Dat.leavesExact; rw [liveAt0_3 tFirst], after0_3]
    rw [show (dats m 0 c).leavesExact 4 tFirst = owns (c : Thread nD τ) (ms0_4 tFirst) fullShare ((dats m 0 c).after 4 tFirst) from by
      unfold Dat.leavesExact; rw [liveAt0_4 tFirst], after0_4]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords tFirst) _ _ _ _ _ _ _ _ _ _ _ _ _ _ ((first_iff tFirst).mpr rfl) (iblk m c 0 tFirst) (iblk m c 1 tFirst) (iblk m c 2 tFirst) (iblk m c 3 tFirst) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5 m c tFirst); iexact H5
    iapply (leaves0_6 m c tFirst); iexact H6
  · simp only [before0_5 m c t h0, before0_6 m c t h0]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ (fun h => h0 ((first_iff t).mp h)) (iblk m c 0 t) (iblk m c 1 t) (iblk m c 2 t) (iblk m c 3 t) (codes m c) (scale m c) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5 m c t); iexact H5
    iapply (leaves0_6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every weakly fair execution of @main terminates with each array of the pipeline as the proof data says, every other buffer as the
    operations after the region leave it, and every semaphore counter at zero. -/
theorem run_main_quiescent : θ_run defs (onTc (τ := τ) (main (F := F))) (s₀ m ρ) (fun r => (Pipeline.FramePost cfgs (dats m) (0 : Fin 1) (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) (0 : Fin 1) (Pipeline.afterTail₀ cfgs (dats m) 0 (V0 m) [hostOps1])) :=
  (θ_run defs _ _).mono (fun _ h => h.1) (run_main_quiescent m ρ)

/-- The frame: the arguments end as they began, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelOfWordIdeal.Run

end
-- ==== Proof.KernelOfWordRun.lean ====
/- The run of `proofs.«01_k».proof.KernelOfWord`, by hand where the generated certificate stops: the body stores the codes and the scale at
   the first grid point only, later points read the codes back, and both are written back after the last point. So after
   every point their buffers hold the same contents, the ones of the first point; the product's buffer holds the column block of the
   point. -/
module

public import proofs.«01_k».proof.Proof.KernelOfWordIdealRun
public import proofs.«01_k».proof.Proof.Gen.KernelOfWord.Frame
public import proofs.«01_k».proof.Proof.Gen.KernelOfWord.Skeleton
public import Idealize.ShloMosaic.Lib.Pipeline.ValueKit
public import Idealize.ShloMosaic.Lib.Pipeline.TableIdle
public import Idealize.ShloMosaic.Lib.Claim

@[expose] public section

set_option maxRecDepth 16384

noncomputable section

namespace Cert.KernelOfWord.Run

open Cert.KernelOfWord Cert.KernelOfWord.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A scalar load of a one-word block is its word. -/
theorem ld_first {e : EltTy} (x : Vec F S1 e) (h') :
    View.ld x (Rect.unit (s := S1) ![0] ![1] inb_S1_S1_0) (Shape.Idx.first h') = x (ix1 0) := by
  unfold View.ld; exact congrArg x (funext fun a => by fin_cases a; exact Subsingleton.elim (α := Fin 1) _ _)

/-- What the body leaves in the codes' buffer at the first point: the quantised operand. -/
abbrev codesOf (x0 : Vec F S1 .i32) (x1 : Vec F S768x4096 .bf16) : Vec F S768x4096 .fp8e4m3 := k0_pay2 (x0 (ix1 0)) x1
/-- What it leaves in the product's buffer, the codes at hand being `x5`. -/
abbrev blockOf (x0 : Vec F S1 .i32) (x5 : Vec F S768x4096 .fp8e4m3) (x2 : Vec F S4096x1024 .fp8e4m3) (x3 : Vec F S1x1024 .f32) : Vec F S96x8x1024 .bf16 := k0_pay3 (x0 (ix1 0)) (x5) x2 x3
/-- What it leaves in the scale's buffer at the first point. -/
abbrev scaleOf (x0 : Vec F S1 .i32) : Vec F S1 .f32 := fun _ => k0_pay1 (x0 (ix1 0))

set_option maxHeartbeats 1000000 in
/-- The body at the first point: from the operands' blocks it leaves the codes, the scale and the first column block. -/
theorem run_first (c : Dev nD) (i : grid0.Coords) (arg1 : Memref sig .tc .smem S1 .i32) (harg1 : arg1.IsWhole) (arg2 : Memref sig .tc .vmem S768x4096 .bf16) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S96x8x1024 .bf16) (harg5 : arg5.IsWhole) (arg6 : Memref sig .tc .vmem S768x4096 .fp8e4m3) (harg6 : arg6.IsWhole) (arg7 : Memref sig .tc .smem S1 .f32) (harg7 : arg7.IsWhole) (hc0 : k0_cond1 i = 1#1)
    (x0 : Vec F S1 .i32) (x1 : Vec F S768x4096 .bf16) (x2 : Vec F S4096x1024 .fp8e4m3) (x3 : Vec F S1x1024 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blockOf x0 (codesOf x0 x1) x2 x3) ∗ owns (c : Thread nD τ) arg6 fullShare (codesOf x0 x1) ∗ owns (c : Thread nD τ) arg7 fullShare (scaleOf x0)) -∗ K ⟨⟩))
          ⊢ wp frame (wpE (defs₀ (F := F)) Variants.none c none) E (cc0__body_of_word i arg1 harg1 arg2 harg2 arg3 harg3 arg4 harg4 arg5 harg5 arg6 harg6 arg7 harg7) K := by
    simp only [cc0__body_of_word_eq_skeleton]; unfold cc0__body_of_word_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_eq_canon _ _ _ (fun y => View.cover_of_tiledL _ S96x8x1024.size (by sl_kernel_rfl) y)).trans ?_
      frame_out
      rw [ld_first]
    isplitl [H5]
    · iexists _; isplitr; swap; · iexact H5
      ipureintro
      refine (View.read_writes_eq_canon _ _ _ (fun y => View.cover_of_tiledL _ S768x4096.size (by sl_kernel_rfl) y)).trans ?_
      frame_out
      rw [ld_first]
    iexists _; isplitr; swap; · iexact H6
    ipureintro
    refine (View.read_writes_eq_canon _ _ _ (fun y => View.cover_of_tiledL _ S1.size (by sl_kernel_rfl) y)).trans ?_
    frame_out
    rw [ld_first]; rfl

set_option maxHeartbeats 1000000 in
/-- The body at a later point: from the operands' blocks and the codes kept from the first point it leaves the point's column
    block, the codes and the scale's buffer as they were. -/
theorem run_later (c : Dev nD) (i : grid0.Coords) (arg1 : Memref sig .tc .smem S1 .i32) (harg1 : arg1.IsWhole) (arg2 : Memref sig .tc .vmem S768x4096 .bf16) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S96x8x1024 .bf16) (harg5 : arg5.IsWhole) (arg6 : Memref sig .tc .vmem S768x4096 .fp8e4m3) (harg6 : arg6.IsWhole) (arg7 : Memref sig .tc .smem S1 .f32) (harg7 : arg7.IsWhole) (hc0 : ¬k0_cond1 i = 1#1)
    (x0 : Vec F S1 .i32) (x1 : Vec F S768x4096 .bf16) (x2 : Vec F S4096x1024 .fp8e4m3) (x3 : Vec F S1x1024 .f32) (x5 : Vec F S768x4096 .fp8e4m3) (x6 : Vec F S1 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blockOf x0 x5 x2 x3) ∗ owns (c : Thread nD τ) arg6 fullShare x5 ∗ owns (c : Thread nD τ) arg7 fullShare x6) -∗ K ⟨⟩))
          ⊢ wp frame (wpE (defs₀ (F := F)) Variants.none c none) E (cc0__body_of_word i arg1 harg1 arg2 harg2 arg3 harg3 arg4 harg4 arg5 harg5 arg6 harg6 arg7 harg7) K := by
    simp only [cc0__body_of_word_eq_skeleton]; unfold cc0__body_of_word_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_eq_canon _ _ _ (fun y => View.cover_of_tiledL _ S96x8x1024.size (by sl_kernel_rfl) y)).trans ?_
      frame_out
      rw [ld_first]
    isplitl [H5]
    · iexists _; isplitr; · ipureintro; exact harg6.read_unread _
      iexact H5
    iexists _; isplitr; · ipureintro; exact hf6
    iexact H6

/-! ## The grid points -/

/-- The branch of the body holds at the first point only. -/
theorem first_iff : ∀ t : Fin cfg0.N, k0_cond1 (grid0.coords t) = 1#1 ↔ t.val = 0 :=
  (fun t => by
    have ht : t.val < 8 := Nat.lt_of_lt_of_eq t.isLt N_0
    have e0 : (grid0.coords t 0).val = t.val / 1 % 8 := Pipeline.Grid.coords_val t 0 (by decide) rfl
    have h : k0_cond1 (grid0.coords t) = 1#1 ↔ t.val % 8 = 0 := by
      simp only [k0_cond1, e0]
      word_cmp
    rw [h]; omega
   : ∀ t : Fin grid0.N, k0_cond1 (grid0.coords t) = 1#1 ↔ t.val = 0)

/-- The windows of the operands and of the product are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- The windows of the codes and of the scale are idle after the first point. -/
theorem idle0_5 (t : Fin cfg0.N) : cfg0.idle 5 (grid0.coords t) = !(decide (t.val = 0)) := by
  show (!(k0_cond1 (grid0.coords t) == 1#1)) = _
  by_cases h : t.val = 0
  · rw [(first_iff t).mpr h]; simp [h]
  · rw [beq_eq_false_iff_ne.mpr fun e => h ((first_iff t).mp e)]; simp [h]
theorem idle0_6 (t : Fin cfg0.N) : cfg0.idle 6 (grid0.coords t) = !(decide (t.val = 0)) := idle0_5 t

/-- Their buffers hold nothing of the run before the first point only. -/
theorem fresh0_5 (t : Fin cfg0.N) : cfg0.fresh 5 t.val = decide (t.val = 0) := by
  have hN : t.val < 8 := lt_of_lt_of_eq t.isLt (show cfg0.N = 8 from N_0)
  rw [cfg0.fresh_tab 5 (fun n => decide (n % 8 = 0)) rfl (fun t => ?_) t.val (Nat.le_of_lt t.isLt)]
  · exact decide_eq_decide.mpr (by omega)
  · have hN : t.val < 8 := lt_of_lt_of_eq t.isLt (show cfg0.N = 8 from N_0)
    have hf := flush0_5 t
    rw [idle0_5]
    cases hb : (cfg0.win 5).flush t
    · have : ¬ t.val % 8 = 7 := fun h => by rw [hf.mpr h] at hb; exact absurd hb (by decide)
      by_cases h : t.val = 0
      · simp [h]
      · have h1 : ¬ (t.val + 1) % 8 = 0 := by omega
        have h2 : ¬ t.val % 8 = 0 := by omega
        simp [h1, h2]
    · have : t.val % 8 = 7 := hf.mp hb
      have h1 : (t.val + 1) % 8 = 0 := by omega
      simp [h1]
theorem fresh0_6 (t : Fin cfg0.N) : cfg0.fresh 6 t.val = decide (t.val = 0) := by
  have hN : t.val < 8 := lt_of_lt_of_eq t.isLt (show cfg0.N = 8 from N_0)
  rw [cfg0.fresh_tab 6 (fun n => decide (n % 8 = 0)) rfl (fun t => ?_) t.val (Nat.le_of_lt t.isLt)]
  · exact decide_eq_decide.mpr (by omega)
  · have hN : t.val < 8 := lt_of_lt_of_eq t.isLt (show cfg0.N = 8 from N_0)
    have hf := flush0_6 t
    rw [idle0_6]
    cases hb : (cfg0.win 6).flush t
    · have : ¬ t.val % 8 = 7 := fun h => by rw [hf.mpr h] at hb; exact absurd hb (by decide)
      by_cases h : t.val = 0
      · simp [h]
      · have h1 : ¬ (t.val + 1) % 8 = 0 := by omega
        have h2 : ¬ t.val % 8 = 0 := by omega
        simp [h1, h2]
    · have : t.val % 8 = 7 := hf.mp hb
      have h1 : (t.val + 1) % 8 = 0 := by omega
      simp [h1]

/-! ## The proof data -/

/-- Each window's current staging memref at point `t`, and its wholeness. -/
abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x8x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1 .f32 := win0_6.stage (cfg0.slots t 6)
abbrev hs0_6 (t : Fin cfg0.N) : (ms0_6 t).IsWhole := hstage0_6 ((cfg0.slots t 6).cast nbuf0_6)

variable (m : (ℓ : Loc nD τ sig) → Buf (Elt F) ℓ) (ρ : Dev nD → PrngReg)

/-- The first point. -/
def tFirst : Fin cfg0.N := ⟨0, by rw [show cfg0.N = 8 from N_0]; decide⟩

/-- The codes of the run and its scale: the first point's. -/
def codes (c : Dev nD) : Vec F S768x4096 .fp8e4m3 := codesOf (iblk m c 0 tFirst) (iblk m c 1 tFirst)
def scale (c : Dev nD) : Vec F S1 .f32 := scaleOf (iblk m c 0 tFirst)
/-- The product's column block at point `t`. -/
def block (c : Dev nD) (t : Fin cfg0.N) : Vec F S96x8x1024 .bf16 := blockOf (iblk m c 0 t) (codes m c) (iblk m c 2 t) (iblk m c 3 t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c t
    | ⟨5, _⟩ => codes m c
    | ⟨6, _⟩ => scale m c
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = block m c t := by dsimp only [dats]
theorem after0_5 (c : Dev nD) (t : Fin cfg0.N) : (dats m 0 c).after 5 t = codes m c := by dsimp only [dats]
theorem after0_6 (c : Dev nD) (t : Fin cfg0.N) : (dats m 0 c).after 6 t = scale m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- After the first point the codes' buffer holds the codes when the body begins, and the scale's the scale. -/
theorem before0_5 (c : Dev nD) (t : Fin cfg0.N) (ht : ¬t.val = 0) (d) : (dats m 0 c).before 5 t d = codes m c := by
  rw [(dats m 0 c).before_out_traj 5 rfl (fun _ _ => rfl) (fun t _ _ _ => by rw [after0_5, after0_5]) t.val t rfl d, fresh0_5,
    if_neg (by simpa using ht), after0_5]
theorem before0_6 (c : Dev nD) (t : Fin cfg0.N) (ht : ¬t.val = 0) (d) : (dats m 0 c).before 6 t d = scale m c := by
  rw [(dats m 0 c).before_out_traj 6 rfl (fun _ _ => rfl) (fun t _ _ _ => by rw [after0_6, after0_6]) t.val t rfl d, fresh0_6,
    if_neg (by simpa using ht), after0_6]

/-- At any point, a buffer that holds the run's codes is as the certificate says the body leaves it. -/
theorem leaves0_5 (c : Dev nD) (t : Fin cfg0.N) :
    owns (c : Thread nD τ) (ms0_5 t) fullShare (codes m c) ⊢ ((dats m 0 c).leavesExact 5 t : sProp 𝕄) := by
  by_cases ht : t.val = 0
  · rw [show (dats m 0 c).leavesExact 5 t = owns (c : Thread nD τ) (ms0_5 t) fullShare ((dats m 0 c).after 5 t) from by
      unfold Dat.leavesExact; rw [show cfg0.idle 5 (cfg0.grid.coords t) = false from (idle0_5 t).trans (by simp [ht])], after0_5]
  · have hi : cfg0.idle 5 (cfg0.grid.coords t) = true := (idle0_5 t).trans (by simp [ht])
    cases hf : (cfg0.win 5).flush t
    · rw [(dats m 0 c).leavesExact_idle 5 t hi hf]
      iintro H
      iexists fun _ => default
      rw [before0_5 m c t ht]
      iexact H
    · rw [show (dats m 0 c).leavesExact 5 t = owns (c : Thread nD τ) (ms0_5 t) fullShare ((dats m 0 c).after 5 t) from by
        unfold Dat.leavesExact; rw [hi, hf], after0_5]
theorem leaves0_6 (c : Dev nD) (t : Fin cfg0.N) :
    owns (c : Thread nD τ) (ms0_6 t) fullShare (scale m c) ⊢ ((dats m 0 c).leavesExact 6 t : sProp 𝕄) := by
  by_cases ht : t.val = 0
  · rw [show (dats m 0 c).leavesExact 6 t = owns (c : Thread nD τ) (ms0_6 t) fullShare ((dats m 0 c).after 6 t) from by
      unfold Dat.leavesExact; rw [show cfg0.idle 6 (cfg0.grid.coords t) = false from (idle0_6 t).trans (by simp [ht])], after0_6]
  · have hi : cfg0.idle 6 (cfg0.grid.coords t) = true := (idle0_6 t).trans (by simp [ht])
    cases hf : (cfg0.win 6).flush t
    · rw [(dats m 0 c).leavesExact_idle 6 t hi hf]
      iintro H
      iexists fun _ => default
      rw [before0_6 m c t ht]
      iexact H
    · rw [show (dats m 0 c).leavesExact 6 t = owns (c : Thread nD τ) (ms0_6 t) fullShare ((dats m 0 c).after 6 t) from by
        unfold Dat.leavesExact; rw [hi, hf], after0_6]

/-! ## The body obligation -/

/-- What the body is called with at point `t`, the windows one by one, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  by_cases h0 : t.val = 0
  · obtain rfl : t = tFirst := Fin.ext h0
    rw [show (dats m 0 c).leavesExact 0 tFirst = owns (c : Thread nD τ) (ms0_0 tFirst) fullShare ((dats m 0 c).after 0 tFirst) from by
      unfold Dat.leavesExact; rw [liveAt0_0 tFirst], after0_0]
    rw [show (dats m 0 c).leavesExact 1 tFirst = owns (c : Thread nD τ) (ms0_1 tFirst) fullShare ((dats m 0 c).after 1 tFirst) from by
      unfold Dat.leavesExact; rw [liveAt0_1 tFirst], after0_1]
    rw [show (dats m 0 c).leavesExact 2 tFirst = owns (c : Thread nD τ) (ms0_2 tFirst) fullShare ((dats m 0 c).after 2 tFirst) from by
      unfold Dat.leavesExact; rw [liveAt0_2 tFirst], after0_2]
    rw [show (dats m 0 c).leavesExact 3 tFirst = owns (c : Thread nD τ) (ms0_3 tFirst) fullShare ((dats m 0 c).after 3 tFirst) from by
      unfold Dat.leavesExact; rw [liveAt0_3 tFirst], after0_3]
    rw [show (dats m 0 c).leavesExact 4 tFirst = owns (c : Thread nD τ) (ms0_4 tFirst) fullShare ((dats m 0 c).after 4 tFirst) from by
      unfold Dat.leavesExact; rw [liveAt0_4 tFirst], after0_4]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords tFirst) _ _ _ _ _ _ _ _ _ _ _ _ _ _ ((first_iff tFirst).mpr rfl) (iblk m c 0 tFirst) (iblk m c 1 tFirst) (iblk m c 2 tFirst) (iblk m c 3 tFirst) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5 m c tFirst); iexact H5
    iapply (leaves0_6 m c tFirst); iexact H6
  · simp only [before0_5 m c t h0, before0_6 m c t h0]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ (fun h => h0 ((first_iff t).mp h)) (iblk m c 0 t) (iblk m c 1 t) (iblk m c 2 t) (iblk m c 3 t) (codes m c) (scale m c) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5 m c t); iexact H5
    iapply (leaves0_6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every weakly fair execution of @main terminates with each array of the pipeline as the proof data says, every other buffer as the
    operations after the region leave it, and every semaphore counter at zero. -/
theorem run_main_quiescent : θ_run defs (onTc (τ := τ) (main (F := F))) (s₀ m ρ) (fun r => (Pipeline.FramePost cfgs (dats m) (0 : Fin 1) (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) (0 : Fin 1) (Pipeline.afterTail₀ cfgs (dats m) 0 (V0 m) [hostOps1])) :=
  (θ_run defs _ _).mono (fun _ h => h.1) (run_main_quiescent m ρ)

/-- The frame: the arguments end as they began, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelOfWord.Run

end
-- ==== Proof.KernelRun.lean ====
/- The run of `proofs.«01_k».proof.Kernel`, by hand where the generated certificate stops: the body stores the codes and the scale at
   the first grid point only, later points read the codes back, and both are written back after the last point. So after
   every point their buffers hold the same contents, the ones of the first point; the product's buffer holds the column block of the
   point. -/
module

public import proofs.«01_k».proof.Proof.KernelOfWordRun
public import proofs.«01_k».proof.Proof.Gen.Kernel.Frame
public import proofs.«01_k».proof.Proof.Gen.Kernel.Skeleton
public import Idealize.ShloMosaic.Lib.Pipeline.ValueKit
public import Idealize.ShloMosaic.Lib.Pipeline.TableIdle
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- A scalar load of a one-word block is its word. -/
theorem ld_first {e : EltTy} (x : Vec F S1 e) (h') :
    View.ld x (Rect.unit (s := S1) ![0] ![1] inb_S1_S1_0) (Shape.Idx.first h') = x (ix1 0) := by
  unfold View.ld; exact congrArg x (funext fun a => by fin_cases a; exact Subsingleton.elim (α := Fin 1) _ _)

/-- What the body leaves in the codes' buffer at the first point: the quantised operand. -/
abbrev codesOf (x0 : Vec F S1 .f32) (x1 : Vec F S768x4096 .bf16) : Vec F S768x4096 .fp8e4m3 := k0_pay1 (x0 (ix1 0)) x1
/-- What it leaves in the product's buffer, the codes at hand being `x5`. -/
abbrev blockOf (x0 : Vec F S1 .f32) (x5 : Vec F S768x4096 .fp8e4m3) (x2 : Vec F S4096x1024 .fp8e4m3) (x3 : Vec F S1x1024 .f32) : Vec F S96x8x1024 .bf16 := k0_pay2 (x5) x2 (x0 (ix1 0)) x3
/-- What it leaves in the scale's buffer at the first point. -/
abbrev scaleOf (x0 : Vec F S1 .f32) : Vec F S1 .f32 := fun _ => x0 (ix1 0)

set_option maxHeartbeats 1000000 in
/-- The body at the first point: from the operands' blocks it leaves the codes, the scale and the first column block. -/
theorem run_first (c : Dev nD) (i : grid0.Coords) (arg1 : Memref sig .tc .smem S1 .f32) (harg1 : arg1.IsWhole) (arg2 : Memref sig .tc .vmem S768x4096 .bf16) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S96x8x1024 .bf16) (harg5 : arg5.IsWhole) (arg6 : Memref sig .tc .vmem S768x4096 .fp8e4m3) (harg6 : arg6.IsWhole) (arg7 : Memref sig .tc .smem S1 .f32) (harg7 : arg7.IsWhole) (hc0 : k0_cond1 i = 1#1)
    (x0 : Vec F S1 .f32) (x1 : Vec F S768x4096 .bf16) (x2 : Vec F S4096x1024 .fp8e4m3) (x3 : Vec F S1x1024 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blockOf x0 (codesOf x0 x1) x2 x3) ∗ owns (c : Thread nD τ) arg6 fullShare (codesOf x0 x1) ∗ owns (c : Thread nD τ) arg7 fullShare (scaleOf x0)) -∗ K ⟨⟩))
          ⊢ wp frame (wpE (defs₀ (F := F)) Variants.none c none) E (cc0__body i arg1 harg1 arg2 harg2 arg3 harg3 arg4 harg4 arg5 harg5 arg6 harg6 arg7 harg7) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_eq_canon _ _ _ (fun y => View.cover_of_tiledL _ S96x8x1024.size (by sl_kernel_rfl) y)).trans ?_
      frame_out
      rw [ld_first]
    isplitl [H5]
    · iexists _; isplitr; swap; · iexact H5
      ipureintro
      refine (View.read_writes_eq_canon _ _ _ (fun y => View.cover_of_tiledL _ S768x4096.size (by sl_kernel_rfl) y)).trans ?_
      frame_out
      rw [ld_first]
    iexists _; isplitr; swap; · iexact H6
    ipureintro
    refine (View.read_writes_eq_canon _ _ _ (fun y => View.cover_of_tiledL _ S1.size (by sl_kernel_rfl) y)).trans ?_
    frame_out
    rw [ld_first]; rfl

set_option maxHeartbeats 1000000 in
/-- The body at a later point: from the operands' blocks and the codes kept from the first point it leaves the point's column
    block, the codes and the scale's buffer as they were. -/
theorem run_later (c : Dev nD) (i : grid0.Coords) (arg1 : Memref sig .tc .smem S1 .f32) (harg1 : arg1.IsWhole) (arg2 : Memref sig .tc .vmem S768x4096 .bf16) (harg2 : arg2.IsWhole) (arg3 : Memref sig .tc .vmem S4096x1024 .fp8e4m3) (harg3 : arg3.IsWhole) (arg4 : Memref sig .tc .vmem S1x1024 .f32) (harg4 : arg4.IsWhole) (arg5 : Memref sig .tc .vmem S96x8x1024 .bf16) (harg5 : arg5.IsWhole) (arg6 : Memref sig .tc .vmem S768x4096 .fp8e4m3) (harg6 : arg6.IsWhole) (arg7 : Memref sig .tc .smem S1 .f32) (harg7 : arg7.IsWhole) (hc0 : ¬k0_cond1 i = 1#1)
    (x0 : Vec F S1 .f32) (x1 : Vec F S768x4096 .bf16) (x2 : Vec F S4096x1024 .fp8e4m3) (x3 : Vec F S1x1024 .f32) (x5 : Vec F S768x4096 .fp8e4m3) (x6 : Vec F S1 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (blockOf x0 x5 x2 x3) ∗ owns (c : Thread nD τ) arg6 fullShare x5 ∗ owns (c : Thread nD τ) arg7 fullShare x6) -∗ K ⟨⟩))
          ⊢ wp frame (wpE (defs₀ (F := F)) Variants.none c none) E (cc0__body i arg1 harg1 arg2 harg2 arg3 harg3 arg4 harg4 arg5 harg5 arg6 harg6 arg7 harg7) K := by
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      refine (View.read_writes_eq_canon _ _ _ (fun y => View.cover_of_tiledL _ S96x8x1024.size (by sl_kernel_rfl) y)).trans ?_
      frame_out
      rw [ld_first]
    isplitl [H5]
    · iexists _; isplitr; · ipureintro; exact harg6.read_unread _
      iexact H5
    iexists _; isplitr; · ipureintro; exact hf6
    iexact H6

/-! ## The grid points -/

/-- The branch of the body holds at the first point only. -/
theorem first_iff : ∀ t : Fin cfg0.N, k0_cond1 (grid0.coords t) = 1#1 ↔ t.val = 0 :=
  (fun t => by
    have ht : t.val < 8 := Nat.lt_of_lt_of_eq t.isLt N_0
    have e0 : (grid0.coords t 0).val = t.val / 1 % 8 := Pipeline.Grid.coords_val t 0 (by decide) rfl
    have h : k0_cond1 (grid0.coords t) = 1#1 ↔ t.val % 8 = 0 := by
      simp only [k0_cond1, e0]
      word_cmp
    rw [h]; omega
   : ∀ t : Fin grid0.N, k0_cond1 (grid0.coords t) = 1#1 ↔ t.val = 0)

/-- The windows of the operands and of the product are never idle. -/
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- The windows of the codes and of the scale are idle after the first point. -/
theorem idle0_5 (t : Fin cfg0.N) : cfg0.idle 5 (grid0.coords t) = !(decide (t.val = 0)) := by
  show (!(k0_cond1 (grid0.coords t) == 1#1)) = _
  by_cases h : t.val = 0
  · rw [(first_iff t).mpr h]; simp [h]
  · rw [beq_eq_false_iff_ne.mpr fun e => h ((first_iff t).mp e)]; simp [h]
theorem idle0_6 (t : Fin cfg0.N) : cfg0.idle 6 (grid0.coords t) = !(decide (t.val = 0)) := idle0_5 t

/-- Their buffers hold nothing of the run before the first point only. -/
theorem fresh0_5 (t : Fin cfg0.N) : cfg0.fresh 5 t.val = decide (t.val = 0) := by
  have hN : t.val < 8 := lt_of_lt_of_eq t.isLt (show cfg0.N = 8 from N_0)
  rw [cfg0.fresh_tab 5 (fun n => decide (n % 8 = 0)) rfl (fun t => ?_) t.val (Nat.le_of_lt t.isLt)]
  · exact decide_eq_decide.mpr (by omega)
  · have hN : t.val < 8 := lt_of_lt_of_eq t.isLt (show cfg0.N = 8 from N_0)
    have hf := flush0_5 t
    rw [idle0_5]
    cases hb : (cfg0.win 5).flush t
    · have : ¬ t.val % 8 = 7 := fun h => by rw [hf.mpr h] at hb; exact absurd hb (by decide)
      by_cases h : t.val = 0
      · simp [h]
      · have h1 : ¬ (t.val + 1) % 8 = 0 := by omega
        have h2 : ¬ t.val % 8 = 0 := by omega
        simp [h1, h2]
    · have : t.val % 8 = 7 := hf.mp hb
      have h1 : (t.val + 1) % 8 = 0 := by omega
      simp [h1]
theorem fresh0_6 (t : Fin cfg0.N) : cfg0.fresh 6 t.val = decide (t.val = 0) := by
  have hN : t.val < 8 := lt_of_lt_of_eq t.isLt (show cfg0.N = 8 from N_0)
  rw [cfg0.fresh_tab 6 (fun n => decide (n % 8 = 0)) rfl (fun t => ?_) t.val (Nat.le_of_lt t.isLt)]
  · exact decide_eq_decide.mpr (by omega)
  · have hN : t.val < 8 := lt_of_lt_of_eq t.isLt (show cfg0.N = 8 from N_0)
    have hf := flush0_6 t
    rw [idle0_6]
    cases hb : (cfg0.win 6).flush t
    · have : ¬ t.val % 8 = 7 := fun h => by rw [hf.mpr h] at hb; exact absurd hb (by decide)
      by_cases h : t.val = 0
      · simp [h]
      · have h1 : ¬ (t.val + 1) % 8 = 0 := by omega
        have h2 : ¬ t.val % 8 = 0 := by omega
        simp [h1, h2]
    · have : t.val % 8 = 7 := hf.mp hb
      have h1 : (t.val + 1) % 8 = 0 := by omega
      simp [h1]

/-! ## The proof data -/

/-- Each window's current staging memref at point `t`, and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x1024 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x8x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x4096 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1 .f32 := win0_6.stage (cfg0.slots t 6)
abbrev hs0_6 (t : Fin cfg0.N) : (ms0_6 t).IsWhole := hstage0_6 ((cfg0.slots t 6).cast nbuf0_6)

variable (m : (ℓ : Loc nD τ sig) → Buf (Elt F) ℓ) (ρ : Dev nD → PrngReg)

/-- The first point. -/
def tFirst : Fin cfg0.N := ⟨0, by rw [show cfg0.N = 8 from N_0]; decide⟩

/-- The codes of the run and its scale: the first point's. -/
def codes (c : Dev nD) : Vec F S768x4096 .fp8e4m3 := codesOf (iblk m c 0 tFirst) (iblk m c 1 tFirst)
def scale (c : Dev nD) : Vec F S1 .f32 := scaleOf (iblk m c 0 tFirst)
/-- The product's column block at point `t`. -/
def block (c : Dev nD) (t : Fin cfg0.N) : Vec F S96x8x1024 .bf16 := blockOf (iblk m c 0 t) (codes m c) (iblk m c 2 t) (iblk m c 3 t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => block m c t
    | ⟨5, _⟩ => codes m c
    | ⟨6, _⟩ => scale m c
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = block m c t := by dsimp only [dats]
theorem after0_5 (c : Dev nD) (t : Fin cfg0.N) : (dats m 0 c).after 5 t = codes m c := by dsimp only [dats]
theorem after0_6 (c : Dev nD) (t : Fin cfg0.N) : (dats m 0 c).after 6 t = scale m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- After the first point the codes' buffer holds the codes when the body begins, and the scale's the scale. -/
theorem before0_5 (c : Dev nD) (t : Fin cfg0.N) (ht : ¬t.val = 0) (d) : (dats m 0 c).before 5 t d = codes m c := by
  rw [(dats m 0 c).before_out_traj 5 rfl (fun _ _ => rfl) (fun t _ _ _ => by rw [after0_5, after0_5]) t.val t rfl d, fresh0_5,
    if_neg (by simpa using ht), after0_5]
theorem before0_6 (c : Dev nD) (t : Fin cfg0.N) (ht : ¬t.val = 0) (d) : (dats m 0 c).before 6 t d = scale m c := by
  rw [(dats m 0 c).before_out_traj 6 rfl (fun _ _ => rfl) (fun t _ _ _ => by rw [after0_6, after0_6]) t.val t rfl d, fresh0_6,
    if_neg (by simpa using ht), after0_6]

/-- At any point, a buffer that holds the run's codes is as the certificate says the body leaves it. -/
theorem leaves0_5 (c : Dev nD) (t : Fin cfg0.N) :
    owns (c : Thread nD τ) (ms0_5 t) fullShare (codes m c) ⊢ ((dats m 0 c).leavesExact 5 t : sProp 𝕄) := by
  by_cases ht : t.val = 0
  · rw [show (dats m 0 c).leavesExact 5 t = owns (c : Thread nD τ) (ms0_5 t) fullShare ((dats m 0 c).after 5 t) from by
      unfold Dat.leavesExact; rw [show cfg0.idle 5 (cfg0.grid.coords t) = false from (idle0_5 t).trans (by simp [ht])], after0_5]
  · have hi : cfg0.idle 5 (cfg0.grid.coords t) = true := (idle0_5 t).trans (by simp [ht])
    cases hf : (cfg0.win 5).flush t
    · rw [(dats m 0 c).leavesExact_idle 5 t hi hf]
      iintro H
      iexists fun _ => default
      rw [before0_5 m c t ht]
      iexact H
    · rw [show (dats m 0 c).leavesExact 5 t = owns (c : Thread nD τ) (ms0_5 t) fullShare ((dats m 0 c).after 5 t) from by
        unfold Dat.leavesExact; rw [hi, hf], after0_5]
theorem leaves0_6 (c : Dev nD) (t : Fin cfg0.N) :
    owns (c : Thread nD τ) (ms0_6 t) fullShare (scale m c) ⊢ ((dats m 0 c).leavesExact 6 t : sProp 𝕄) := by
  by_cases ht : t.val = 0
  · rw [show (dats m 0 c).leavesExact 6 t = owns (c : Thread nD τ) (ms0_6 t) fullShare ((dats m 0 c).after 6 t) from by
      unfold Dat.leavesExact; rw [show cfg0.idle 6 (cfg0.grid.coords t) = false from (idle0_6 t).trans (by simp [ht])], after0_6]
  · have hi : cfg0.idle 6 (cfg0.grid.coords t) = true := (idle0_6 t).trans (by simp [ht])
    cases hf : (cfg0.win 6).flush t
    · rw [(dats m 0 c).leavesExact_idle 6 t hi hf]
      iintro H
      iexists fun _ => default
      rw [before0_6 m c t ht]
      iexact H
    · rw [show (dats m 0 c).leavesExact 6 t = owns (c : Thread nD τ) (ms0_6 t) fullShare ((dats m 0 c).after 6 t) from by
        unfold Dat.leavesExact; rw [hi, hf], after0_6]

/-! ## The body obligation -/

/-- What the body is called with at point `t`, the windows one by one, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  by_cases h0 : t.val = 0
  · obtain rfl : t = tFirst := Fin.ext h0
    rw [show (dats m 0 c).leavesExact 0 tFirst = owns (c : Thread nD τ) (ms0_0 tFirst) fullShare ((dats m 0 c).after 0 tFirst) from by
      unfold Dat.leavesExact; rw [liveAt0_0 tFirst], after0_0]
    rw [show (dats m 0 c).leavesExact 1 tFirst = owns (c : Thread nD τ) (ms0_1 tFirst) fullShare ((dats m 0 c).after 1 tFirst) from by
      unfold Dat.leavesExact; rw [liveAt0_1 tFirst], after0_1]
    rw [show (dats m 0 c).leavesExact 2 tFirst = owns (c : Thread nD τ) (ms0_2 tFirst) fullShare ((dats m 0 c).after 2 tFirst) from by
      unfold Dat.leavesExact; rw [liveAt0_2 tFirst], after0_2]
    rw [show (dats m 0 c).leavesExact 3 tFirst = owns (c : Thread nD τ) (ms0_3 tFirst) fullShare ((dats m 0 c).after 3 tFirst) from by
      unfold Dat.leavesExact; rw [liveAt0_3 tFirst], after0_3]
    rw [show (dats m 0 c).leavesExact 4 tFirst = owns (c : Thread nD τ) (ms0_4 tFirst) fullShare ((dats m 0 c).after 4 tFirst) from by
      unfold Dat.leavesExact; rw [liveAt0_4 tFirst], after0_4]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_first c (grid0.coords tFirst) _ _ _ _ _ _ _ _ _ _ _ _ _ _ ((first_iff tFirst).mpr rfl) (iblk m c 0 tFirst) (iblk m c 1 tFirst) (iblk m c 2 tFirst) (iblk m c 3 tFirst) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5 m c tFirst); iexact H5
    iapply (leaves0_6 m c tFirst); iexact H6
  · simp only [before0_5 m c t h0, before0_6 m c t h0]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ (fun h => h0 ((first_iff t).mp h)) (iblk m c 0 t) (iblk m c 1 t) (iblk m c 2 t) (iblk m c 3 t) (codes m c) (scale m c) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5 m c t); iexact H5
    iapply (leaves0_6 m c t); iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every weakly fair execution of @main terminates with each array of the pipeline as the proof data says, every other buffer as the
    operations after the region leave it, and every semaphore counter at zero. -/
theorem run_main_quiescent : θ_run defs (onTc (τ := τ) (main (F := F))) (s₀ m ρ) (fun r => (Pipeline.FramePost cfgs (dats m) (0 : Fin 1) (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) (0 : Fin 1) (Pipeline.afterTail₀ cfgs (dats m) 0 (V0 m) [hostOps1])) :=
  (θ_run defs _ _).mono (fun _ h => h.1) (run_main_quiescent m ρ)

/-- The frame: the arguments end as they began, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel.Run

end
-- ==== Proof.ReferenceIdealValue.lean ====
/- What `proofs.«01_k».proof.ReferenceIdeal` computes: the body runs once over whole arrays, so each result is one function of the
   arguments. -/
module

public import proofs.«01_k».proof.Proof.Gen.ReferenceIdeal.Frame
public import Idealize.ShloMosaic.Lib.Pipeline.ValueKit
public import Idealize.ShloMosaic.Lib.Claim
public import proofs.«01_k».proof.Proof.KernelRun

@[expose] public section

set_option maxRecDepth 16384

noncomputable section

namespace Cert.ReferenceIdeal.Value

open Cert.ReferenceIdeal Cert.ReferenceIdeal.Gen
open Idealize.ShloMosaic Idealize.ShloMosaic.TcCoe Idealize.SL.Sem
open Idealize.ShloMosaic.Pipeline (Dat)

variable {F : FTy → Type} [FloatOps F] (m : (ℓ : Loc nD τ sig) → Buf (Elt F) ℓ)

/-- The scale, from the word at hand. -/
abbrev scaleVal (s : Vec F S1 .i32) : FVec F S1 .f32 := fun _ => k0_pay2 (s (ix1 0))
/-- The codes. -/
abbrev codesVal (s : Vec F S1 .i32) (x : Vec F S768x4096 .bf16) : FVec F S768x4096 .fp8e4m3 := k0_pay3 (s (ix1 0)) x
/-- The product after GELU. -/
abbrev prodVal (s : Vec F S1 .i32) (x : Vec F S768x4096 .bf16) (w : Vec F S4096x8192 .fp8e4m3) (ws : Vec F S1x8192 .f32) : FVec F S768x8192 .bf16 :=
  k0_pay1 (k0_pay4 (s (ix1 0)) x w ws) (k0_pay5 (s (ix1 0)) x w ws) k0_pay6

theorem idx : ∀ t : Fin cfg0.N, win0_0.index t = ![0] ∧ win0_1.index t = ![0, 0] ∧ win0_2.index t = ![0, 0] ∧ win0_3.index t = ![0, 0]
    ∧ win0_4.index t = ![0, 0] ∧ win0_5.index t = ![0, 0] ∧ win0_6.index t = ![0] :=
  (by decide +kernel : ∀ t : Fin grid0.N, _)

/-- A scalar load of a one-word block is its word. -/
theorem ld_first {e : EltTy} (x : Vec F S1 e) (i) : View.ld x (Rect.unit (s := S1) ![0] ![1] inb_S1_S1_0) i = x (ix1 0) := by
  unfold View.ld; exact congrArg x (funext fun a => by fin_cases a; exact Subsingleton.elim (α := Fin 1) _ _)

/-- What the body leaves in each output's buffer. -/
theorem body4 (c : Dev nD) (arg0 : Memref sig .tc .smem S1 .i32) (harg0 : arg0.IsWhole) (arg1 : Memref sig .tc .vmem S768x4096 .bf16) (harg1 : arg1.IsWhole) (arg2 : Memref sig .tc .vmem S4096x8192 .fp8e4m3) (harg2 : arg2.IsWhole) (arg3 : Memref sig .tc .vmem S1x8192 .f32) (harg3 : arg3.IsWhole) (arg4 : Memref sig .tc .vmem S768x8192 .bf16) (harg4 : arg4.IsWhole) (arg5 : Memref sig .tc .vmem S768x4096 .fp8e4m3) (harg5 : arg5.IsWhole) (arg6 : Memref sig .tc .smem S1 .f32) (harg6 : arg6.IsWhole)
    (x0 : Vec F S1 .i32) (x1 : Vec F S768x4096 .bf16) (x2 : Vec F S4096x8192 .fp8e4m3) (x3 : Vec F S1x8192 .f32) :
    out0_A_4 c arg0 harg0 arg1 harg1 arg2 harg2 arg3 harg3 arg4 harg4 arg5 harg5 arg6 harg6 x0 x1 x2 x3 = prodVal x0 x1 x2 x3 := by
  frame_out
  exact congrArg (fun s => k0_pay1 (k0_pay4 s x1 x2 x3) (k0_pay5 s x1 x2 x3) k0_pay6) (ld_first x0 _)
theorem body5 (c : Dev nD) (arg0 : Memref sig .tc .smem S1 .i32) (harg0 : arg0.IsWhole) (arg1 : Memref sig .tc .vmem S768x4096 .bf16) (harg1 : arg1.IsWhole) (arg2 : Memref sig .tc .vmem S4096x8192 .fp8e4m3) (harg2 : arg2.IsWhole) (arg3 : Memref sig .tc .vmem S1x8192 .f32) (harg3 : arg3.IsWhole) (arg4 : Memref sig .tc .vmem S768x8192 .bf16) (harg4 : arg4.IsWhole) (arg5 : Memref sig .tc .vmem S768x4096 .fp8e4m3) (harg5 : arg5.IsWhole) (arg6 : Memref sig .tc .smem S1 .f32) (harg6 : arg6.IsWhole)
    (x0 : Vec F S1 .i32) (x1 : Vec F S768x4096 .bf16) (x2 : Vec F S4096x8192 .fp8e4m3) (x3 : Vec F S1x8192 .f32) :
    out0_A_5 c arg0 harg0 arg1 harg1 arg2 harg2 arg3 harg3 arg4 harg4 arg5 harg5 arg6 harg6 x0 x1 x2 x3 = codesVal x0 x1 := by
  frame_out
  exact congrArg (fun s => k0_pay3 s x1) (ld_first x0 _)
theorem body6 (c : Dev nD) (arg0 : Memref sig .tc .smem S1 .i32) (harg0 : arg0.IsWhole) (arg1 : Memref sig .tc .vmem S768x4096 .bf16) (harg1 : arg1.IsWhole) (arg2 : Memref sig .tc .vmem S4096x8192 .fp8e4m3) (harg2 : arg2.IsWhole) (arg3 : Memref sig .tc .vmem S1x8192 .f32) (harg3 : arg3.IsWhole) (arg4 : Memref sig .tc .vmem S768x8192 .bf16) (harg4 : arg4.IsWhole) (arg5 : Memref sig .tc .vmem S768x4096 .fp8e4m3) (harg5 : arg5.IsWhole) (arg6 : Memref sig .tc .smem S1 .f32) (harg6 : arg6.IsWhole)
    (x0 : Vec F S1 .i32) (x1 : Vec F S768x4096 .bf16) (x2 : Vec F S4096x8192 .fp8e4m3) (x3 : Vec F S1x8192 .f32) :
    out0_A_6 c arg0 harg0 arg1 harg1 arg2 harg2 arg3 harg3 arg4 harg4 arg5 harg5 arg6 harg6 x0 x1 x2 x3 = scaleVal x0 := by
  frame_out
  exact congrArg (fun s _ => k0_pay2 s) (ld_first x0 _)
theorem out4 (c : Dev nD) (t : Fin cfg0.N) : (outsAt0 m c t).1 = prodVal (iblk m c 0 t) (iblk m c 1 t) (iblk m c 2 t) (iblk m c 3 t) := by
  simp only [outsAt0, body4]
theorem out5 (c : Dev nD) (t : Fin cfg0.N) : (outsAt0 m c t).2.1 = codesVal (iblk m c 0 t) (iblk m c 1 t) := by
  simp only [outsAt0, body5]
theorem out6 (c : Dev nD) (t : Fin cfg0.N) : (outsAt0 m c t).2.2 = scaleVal (iblk m c 0 t) := by
  simp only [outsAt0, body6]

/-- Each operand's block is its whole array. -/
theorem iblk0 (c : Dev nD) (t : Fin cfg0.N) : iblk m c 0 t = V m c main_arg1 := by blk_ext! [iblk, idx t]
theorem iblk1 (c : Dev nD) (t : Fin cfg0.N) : iblk m c 1 t = V m c main_v0 := by blk_ext! [iblk, idx t]
theorem iblk2 (c : Dev nD) (t : Fin cfg0.N) : iblk m c 2 t = V m c main_arg2 := by blk_ext! [iblk, idx t]
theorem iblk3 (c : Dev nD) (t : Fin cfg0.N) : iblk m c 3 t = V m c main_v1 := by blk_ext! [iblk, idx t]

/-- Each result array after the region. -/
theorem final4 (c : Dev nD) : (dats m 0 c).arrAt 4 (cfgs 0).N
    = prodVal (V m c main_arg1) (V m c main_v0) (V m c main_arg2) (V m c main_v1) := by
  refine (dats m 0 c).arrAt_eq_of_after_last 4 t0_0 (by decide +kernel) _ fun j => ?_
  rw [after0_4, out4, iblk0, iblk1, iblk2, iblk3]
  blk_simp [idx t0_0]
theorem final5 (c : Dev nD) : (dats m 0 c).arrAt 5 (cfgs 0).N = codesVal (V m c main_arg1) (V m c main_v0) := by
  refine (dats m 0 c).arrAt_eq_of_after_last 5 t0_0 (by decide +kernel) _ fun j => ?_
  rw [after0_5, out5, iblk0, iblk1]
  blk_simp [idx t0_0]
theorem final6 (c : Dev nD) : (dats m 0 c).arrAt 6 (cfgs 0).N = scaleVal (V m c main_arg1) := by
  refine (dats m 0 c).arrAt_eq_of_after_last 6 t0_0 (by decide +kernel) _ fun j => ?_
  rw [after0_6, out6, iblk0]
  blk_simp [idx t0_0]

/-- The reshaped operands at the region's entry. -/
theorem entry_v0 (c : Dev nD) : V m c main_v0 = shapeCast S768x4096 (m ((c : Thread nD τ).loc main_arg0)) shapeCasts_S3x256x4096_S768x4096 := by
  unfold V V0
  simp only [hostOps0, List.flatten_cons, List.flatten_nil, List.append_nil]
  after_results
  rfl
theorem entry_v1 (c : Dev nD) : V m c main_v1 = shapeCast S1x8192 (m ((c : Thread nD τ).loc main_arg3)) shapeCasts_S8192_S1x8192 := by
  unfold V V0
  simp only [hostOps0, List.flatten_cons, List.flatten_nil, List.append_nil]
  after_results
  rfl

/-- The results after the reshapes that follow the region. -/
theorem tail3 (c : Dev nD) : Pipeline.afterTail₀ cfgs (dats m) 0 (V0 m) [hostOps1] c main_v3
    = shapeCast S3x256x8192 ((dats m 0 c).arrAt 4 (cfgs 0).N) shapeCasts_S768x8192_S3x256x8192 := by
  have h := Pipeline.withArrays_arr (cfgs 0).spec launch0.win.arr_inj c (V0 m c) (fun w => (dats m 0 c).arrAt w (cfgs 0).N) 4
  unfold Pipeline.afterTail₀
  simp only [hostOps1, List.flatten_cons, List.flatten_nil, List.append_nil]
  after_results
  exact congrArg (fun A => shapeCast S3x256x8192 A shapeCasts_S768x8192_S3x256x8192) h
theorem tail4 (c : Dev nD) : Pipeline.afterTail₀ cfgs (dats m) 0 (V0 m) [hostOps1] c main_v4
    = shapeCast S3x256x4096 ((dats m 0 c).arrAt 5 (cfgs 0).N) shapeCasts_S768x4096_S3x256x4096 := by
  have h := Pipeline.withArrays_arr (cfgs 0).spec launch0.win.arr_inj c (V0 m c) (fun w => (dats m 0 c).arrAt w (cfgs 0).N) 5
  unfold Pipeline.afterTail₀
  simp only [hostOps1, List.flatten_cons, List.flatten_nil, List.append_nil]
  after_results
  exact congrArg (fun A => shapeCast S3x256x4096 A shapeCasts_S768x4096_S3x256x4096) h

/-- THE RUN: every result of the program as one function of its arguments. -/
theorem run (ρ : Dev nD → PrngReg) : θ_run (defs (F := F)) (onTc (τ := τ) (main (F := F))) ⟨m, fun _ => 0, ρ⟩ (fun r => ∀ c : Dev nD,
      r.2.mem ((c.tc : Thread nD τ).loc main_v3) = shapeCast S3x256x8192
        (prodVal (F := F) (m ((c.tc : Thread nD τ).loc main_arg1)) (shapeCast S768x4096 (m ((c.tc : Thread nD τ).loc main_arg0)) shapeCasts_S3x256x4096_S768x4096)
          (m ((c.tc : Thread nD τ).loc main_arg2)) (shapeCast S1x8192 (m ((c.tc : Thread nD τ).loc main_arg3)) shapeCasts_S8192_S1x8192)) shapeCasts_S768x8192_S3x256x8192
      ∧ r.2.mem ((c.tc : Thread nD τ).loc main_v4) = shapeCast S3x256x4096
        (codesVal (F := F) (m ((c.tc : Thread nD τ).loc main_arg1)) (shapeCast S768x4096 (m ((c.tc : Thread nD τ).loc main_arg0)) shapeCasts_S3x256x4096_S768x4096)) shapeCasts_S768x4096_S3x256x4096
      ∧ r.2.mem ((c.tc : Thread nD τ).loc main_v2_2) = scaleVal (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (Gen.frame m ρ))
  refine ⟨?_, ?_, ?_, h.2.1 c⟩
  · rw [(h.1 c).2 main_v3 (Pipeline.mem_restRefs_of main_v3 (by decide) (by decide)), tail3, final4, entry_v0, entry_v1, V_main_arg1, V_main_arg2]
  · rw [(h.1 c).2 main_v4 (Pipeline.mem_restRefs_of main_v4 (by decide) (by decide)), tail4, final5, entry_v0, V_main_arg1]
  · exact ((h.1 c).1 6).trans ((final6 m c).trans (by rw [V_main_arg1]))

end Cert.ReferenceIdeal.Value

end
-- ==== Proof.KernelOfWordIdealValue.lean ====
/- What `proofs.«01_k».proof.KernelOfWordIdeal` computes: the eight column blocks of the product tile its array, so that array is one
   function of the operands; the codes and the scale are what the first point stored. -/
module

public import proofs.«01_k».proof.Proof.ReferenceIdealValue
public import proofs.«01_k».proof.Proof.KernelOfWordIdealRun
public import Idealize.ShloMosaic.Lib.Pipeline.ValueKit
public import Idealize.ShloMosaic.Lib.Pointwise
public import Idealize.ShloMosaic.Lib.Claim

@[expose] public section

set_option maxRecDepth 16384

noncomputable section

namespace Cert.KernelOfWordIdeal.Value

open Cert.KernelOfWordIdeal Cert.KernelOfWordIdeal.Gen Cert.KernelOfWordIdeal.Run
open Idealize.ShloMosaic Idealize.ShloMosaic.TcCoe Idealize.SL.Sem
open Idealize.ShloMosaic.Pipeline (Dat)

theorem idx : ∀ t : Fin cfg0.N, win0_0.index t = ![0] ∧ win0_1.index t = ![0, 0] ∧ win0_2.index t = ![0, t.val] ∧ win0_3.index t = ![0, t.val]
    ∧ win0_4.index t = ![0, 0, t.val] ∧ win0_5.index t = ![0, 0] ∧ win0_6.index t = ![0] :=
  (by decide +kernel : ∀ t : Fin grid0.N, _)

section
variable {F : FTy → Type} [FloatOps F] (m : (ℓ : Loc nD τ sig) → Buf (Elt F) ℓ)

/-- The scale's word and the activations reach every point whole. -/
theorem iblk0 (c : Dev nD) (t : Fin cfg0.N) : iblk m c 0 t = V m c main_arg1 := by blk_ext! [iblk, idx t]
theorem iblk1 (c : Dev nD) (t : Fin cfg0.N) : iblk m c 1 t = V m c main_v0 := by blk_ext! [iblk, idx t]

/-- The codes' array and the scale's array after the region. -/
theorem final5 (c : Dev nD) : (dats m 0 c).arrAt 5 (cfgs 0).N = codesOf (V m c main_arg1) (V m c main_v0) := by
  refine (dats m 0 c).arrAt_eq_of_after_last 5 t0_7 (by decide +kernel) _ fun j => ?_
  rw [after0_5]; unfold codes; rw [iblk0, iblk1]
  blk_simp [idx t0_7]
  rfl
theorem final6 (c : Dev nD) : (dats m 0 c).arrAt 6 (cfgs 0).N = scaleOf (V m c main_arg1) := by
  refine (dats m 0 c).arrAt_eq_of_after_last 6 t0_7 (by decide +kernel) _ fun j => ?_
  rw [after0_6]; unfold scale; rw [iblk0]
  blk_simp [idx t0_7]

/-- The reshaped operands at the region's entry. -/
theorem entry_v0 (c : Dev nD) : V m c main_v0 = shapeCast S768x4096 (m ((c : Thread nD τ).loc main_arg0)) shapeCasts_S3x256x4096_S768x4096 := by
  unfold V V0
  simp only [hostOps0, List.flatten_cons, List.flatten_nil, List.append_nil]
  after_results
  rfl
theorem entry_v1 (c : Dev nD) : V m c main_v1 = shapeCast S1x8192 (m ((c : Thread nD τ).loc main_arg3)) shapeCasts_S8192_S1x8192 := by
  unfold V V0
  simp only [hostOps0, List.flatten_cons, List.flatten_nil, List.append_nil]
  after_results
  rfl

/-- Result `main_v3`: the region's array, reshaped. -/
theorem tail3 (c : Dev nD) : Pipeline.afterTail₀ cfgs (dats m) 0 (V0 m) [hostOps1] c main_v3
    = shapeCast S3x256x8192 ((dats m 0 c).arrAt 4 (cfgs 0).N) shapeCasts_S96x8x8192_S3x256x8192 := by
  have h := Pipeline.withArrays_arr (cfgs 0).spec launch0.win.arr_inj c (V0 m c) (fun w => (dats m 0 c).arrAt w (cfgs 0).N) 4
  unfold Pipeline.afterTail₀
  simp only [hostOps1, List.flatten_cons, List.flatten_nil, List.append_nil]
  after_results
  exact congrArg (fun A => shapeCast S3x256x8192 A shapeCasts_S96x8x8192_S3x256x8192) h
/-- Result `main_v4`: the region's array, reshaped. -/
theorem tail4 (c : Dev nD) : Pipeline.afterTail₀ cfgs (dats m) 0 (V0 m) [hostOps1] c main_v4
    = shapeCast S3x256x4096 ((dats m 0 c).arrAt 5 (cfgs 0).N) shapeCasts_S768x4096_S3x256x4096 := by
  have h := Pipeline.withArrays_arr (cfgs 0).spec launch0.win.arr_inj c (V0 m c) (fun w => (dats m 0 c).arrAt w (cfgs 0).N) 5
  unfold Pipeline.afterTail₀
  simp only [hostOps1, List.flatten_cons, List.flatten_nil, List.append_nil]
  after_results
  exact congrArg (fun A => shapeCast S3x256x4096 A shapeCasts_S768x4096_S3x256x4096) h
end

variable (m : (ℓ : Loc nD τ sig) → Buf (Elt Ideal) ℓ)

/-- `h · (½ · (1 + tanh (√(2/π) · (h + 0.044715 · h³))))`, with the constants the program prints. -/
def gelu (h : EReal) : EReal :=
  h * (Ideal.ofBits .f32 0x3F000000#32 * (1 + Ideal.tanh (Ideal.ofBits .f32 0x3F4C422A#32 * (h + Ideal.ofBits .f32 0x3D372713#32 * ((h * h) * h)))))

/-- The whole product: row `r`, column `l` of codes times weights, scaled by `s` and the column's weight scale, through GELU. -/
def prodAt (s : EReal) (x5 : FVec Ideal S768x4096 .fp8e4m3) (w : FVec Ideal S4096x8192 .fp8e4m3) (ws : FVec Ideal S1x8192 .f32)
    (r : Fin 768) (l : Fin 8192) : EReal :=
  gelu ((∑ k : Fin 4096, x5 (ix2 r k) * w (ix2 k l)) * (s * ws (ix2 0 l)))

/-- The product as the region writes it, rows in groups of eight. -/
def prod (s : EReal) (x5 : FVec Ideal S768x4096 .fp8e4m3) (w : FVec Ideal S4096x8192 .fp8e4m3) (ws : FVec Ideal S1x8192 .f32) :
    FVec Ideal S96x8x8192 .bf16 :=
  fun j => prodAt s x5 w ws ⟨(j 0).val * 8 + (j 1).val, by have h0 : (j 0).val < 96 := (j 0).isLt; have h1 : (j 1).val < 8 := (j 1).isLt; omega⟩ (j 2)

/-- One entry of the block a point stores. -/
theorem pay3_at (v : BitVec 32) (x5 : FVec Ideal S768x4096 .fp8e4m3) (w : FVec Ideal S4096x1024 .fp8e4m3) (ws : FVec Ideal S1x1024 .f32) (j : S96x8x1024.Idx) :
    k0_pay3 (F := Ideal) v x5 w ws j
      = gelu ((∑ k : Fin 4096, x5 (ix2 ⟨(j 0).val * 8 + (j 1).val, by have h0 : (j 0).val < 96 := (j 0).isLt; have h1 : (j 1).val < 8 := (j 1).isLt; omega⟩ k) * w (ix2 k (j 2))) * (k0_pay1 (F := Ideal) v * ws (ix2 0 (j 2)))) := by
  idx_vars j
  pointwise [k0_pay3, gelu]

/-- The product's array after the region. -/
theorem final4 (c : Dev nD) : (dats m 0 c).arrAt 4 (cfgs 0).N
    = prod (k0_pay1 (F := Ideal) ((V m c main_arg1 : Vec Ideal S1 .i32) (ix1 0))) (codesOf (F := Ideal) (V m c main_arg1) (V m c main_v0)) (V m c main_arg2) (V m c main_v1) := by
  refine (dats m 0 c).arrAt_eq_of_covers 4 _ (by decide +kernel) fun t hf y => ?_
  blk_simp
  rw [after0_4]; unfold block codes blockOf; rw [iblk0, iblk0, iblk1]
  refine (pay3_at _ _ _ _ _).trans ?_
  unfold prod prodAt
  blk_point [iblk, V, idx t]

/-- THE RUN: every result of the program as one function of its arguments. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v3) = shapeCast S3x256x8192
        (prod (k0_pay1 (F := Ideal) ((m ((c.tc : Thread nD τ).loc main_arg1) : Vec Ideal S1 .i32) (ix1 0)))
          (codesOf (F := Ideal) (m ((c.tc : Thread nD τ).loc main_arg1)) (shapeCast S768x4096 (m ((c.tc : Thread nD τ).loc main_arg0)) shapeCasts_S3x256x4096_S768x4096))
          (m ((c.tc : Thread nD τ).loc main_arg2)) (shapeCast S1x8192 (m ((c.tc : Thread nD τ).loc main_arg3)) shapeCasts_S8192_S1x8192)) shapeCasts_S96x8x8192_S3x256x8192
      ∧ r.2.mem ((c.tc : Thread nD τ).loc main_v4) = shapeCast S3x256x4096
        (codesOf (F := Ideal) (m ((c.tc : Thread nD τ).loc main_arg1)) (shapeCast S768x4096 (m ((c.tc : Thread nD τ).loc main_arg0)) shapeCasts_S3x256x4096_S768x4096)) shapeCasts_S768x4096_S3x256x4096
      ∧ r.2.mem ((c.tc : Thread nD τ).loc main_v2_2) = scaleOf (F := Ideal) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (Run.frame m ρ))
  refine ⟨?_, ?_, ?_, h.2.1 c⟩
  · rw [(h.1 c).2 main_v3 (Pipeline.mem_restRefs_of main_v3 (by decide) (by decide)), tail3, final4, entry_v0, entry_v1, V_main_arg1, V_main_arg2]
  · rw [(h.1 c).2 main_v4 (Pipeline.mem_restRefs_of main_v4 (by decide) (by decide)), tail4, final5, entry_v0, V_main_arg1]
  · exact ((h.1 c).1 6).trans ((final6 m c).trans (by rw [V_main_arg1]))

end Cert.KernelOfWordIdeal.Value

end
-- ==== Proof.PowerOfTwo.lean ====
/- The scale's power of two, two ways. Reading the exponent field `e` of the scale's word and building the word of field `254 - e` gives
   `2 ^ (127 - e)`; the greatest power of two not above the scale's magnitude is `2 ^ (e - 127)`. For a normal scale the two are each
   other's reciprocal. -/
module

public import proofs.«01_k».proof.Proof.KernelOfWordIdealValue

@[expose] public section

set_option maxRecDepth 16384

noncomputable section

namespace Cert.PowerOfTwo

open Idealize.ShloMosaic

/-- A word's exponent field. -/
def field (v : BitVec 32) : ℕ := (v.extractLsb' 23 8).toNat

theorem field_lt (v : BitVec 32) : field v < 256 := (v.extractLsb' 23 8).isLt

/-- Shifting the word down and masking eight bits reads the field. -/
theorem shift_mask (v : BitVec 32) : v.sshiftRight 23 &&& 255#32 = BitVec.ofNat 32 (field v) := by
  have h : v.sshiftRight 23 &&& 255#32 = (v.extractLsb' 23 8).setWidth 32 := by
    have hm : ∀ i : Fin 32, (255#32).getLsbD i = decide (i.val < 8) := by decide
    refine BitVec.eq_of_getLsbD_eq fun i hi => ?_
    have h255 := hm ⟨i, hi⟩
    simp only at h255
    rw [BitVec.getLsbD_and, h255, BitVec.getLsbD_setWidth, BitVec.getLsbD_extractLsb', BitVec.getLsbD_sshiftRight]
    by_cases h8 : i < 8
    · have : 23 + i < 32 := by omega
      simp [h8, hi, this]
    · simp [h8]
  rw [h]
  apply BitVec.eq_of_toNat_eq
  have := field_lt v
  rw [BitVec.toNat_setWidth, BitVec.toNat_ofNat]; rfl

theorem read_field (v : BitVec 32) : IntOp.andi (IntOp.shrsi ArithUnit.vector v 23#32) 255#32 = BitVec.ofNat 32 (field v) :=
  shift_mask v

/-- The preconditions' bounds on the field. -/
theorem field_ge (v : BitVec 32) (h : IntOp.cmpi .sge (IntOp.andi (IntOp.shrsi ArithUnit.vector v 23#32) 255#32) 1#32 = 1#1) : 1 ≤ field v := by
  rw [read_field] at h
  exact (by decide +kernel : ∀ e : Fin 256, IntOp.cmpi .sge (BitVec.ofNat 32 e.val) 1#32 = 1#1 → 1 ≤ e.val) ⟨field v, field_lt v⟩ h
theorem field_le_253 (v : BitVec 32) (h : IntOp.cmpi .sle (IntOp.andi (IntOp.shrsi ArithUnit.vector v 23#32) 255#32) 253#32 = 1#1) : field v ≤ 253 := by
  rw [read_field] at h
  exact (by decide +kernel : ∀ e : Fin 256, IntOp.cmpi .sle (BitVec.ofNat 32 e.val) 253#32 = 1#1 → e.val ≤ 253) ⟨field v, field_lt v⟩ h
theorem field_le_254 (v : BitVec 32) (h : IntOp.cmpi .sle (IntOp.andi (IntOp.shrsi ArithUnit.vector v 23#32) 255#32) 254#32 = 1#1) : field v ≤ 254 := by
  rw [read_field] at h
  exact (by decide +kernel : ∀ e : Fin 256, IntOp.cmpi .sle (BitVec.ofNat 32 e.val) 254#32 = 1#1 → e.val ≤ 254) ⟨field v, field_lt v⟩ h
theorem and_one : ∀ a b : BitVec 1, IntOp.andi a b = 1#1 → a = 1#1 ∧ b = 1#1 := by decide

/-- The word of field `254 - e` and its pieces. -/
theorem pieces : ∀ e : Fin 256, 1 ≤ e.val → e.val ≤ 253 →
    ((254#32 - BitVec.ofNat 32 e.val) <<< 23).extractLsb' 31 1 = 0#1 ∧ (((254#32 - BitVec.ofNat 32 e.val) <<< 23).extractLsb' 23 8).toNat = 254 - e.val
      ∧ (((254#32 - BitVec.ofNat 32 e.val) <<< 23).extractLsb' 0 23).toNat = 0 := by decide +kernel

/-- Its value. -/
theorem inverse_value (v : BitVec 32) (h1 : 1 ≤ field v) (h2 : field v ≤ 253) :
    Ideal.ofBits .f32 (IntOp.shli ArithUnit.vector (IntOp.subi 254#32 (IntOp.andi (IntOp.shrsi ArithUnit.vector v 23#32) 255#32)) 23#32)
      = (((2 : ℝ) ^ (127 - (field v : ℤ)) : ℝ) : EReal) := by
  rw [read_field]
  obtain ⟨p1, p2, p3⟩ := pieces ⟨field v, field_lt v⟩ h1 h2
  change Ideal.ieee 8 23 ((254#32 - BitVec.ofNat 32 (field v)) <<< 23) = _
  unfold Ideal.ieee
  simp only at p1 p2 p3
  simp only [Nat.reduceAdd, p1, p2, p3]
  rw [if_neg (by omega), if_neg (by omega)]
  have hz : ((254 - field v : ℕ) : ℤ) = 254 - (field v : ℤ) := by omega
  rw [hz]
  norm_num
  rw [show (8388608 : ℝ) = 2 ^ (23 : ℤ) by norm_num, ← EReal.coe_mul, ← zpow_add₀ (by norm_num),
    show (23 : ℤ) + (254 - (field v : ℤ) - 127 - 23) = 127 - (field v : ℤ) by ring]

/-- The magnitude of a normal word lies in the binade its field names. -/
theorem magnitude (v : BitVec 32) (h1 : 1 ≤ field v) (h2 : field v ≤ 253) :
    ∃ r : ℝ, Scalar.absf (F := Ideal) (φ := .f32) (Ideal.ofBits .f32 v) = (r : EReal) ∧ (2 : ℝ) ^ ((field v : ℤ) - 127) ≤ r ∧ r < (2 : ℝ) ^ ((field v : ℤ) - 126) := by
  have hx : ∃ (s : ℝ) (f : ℕ), (s = 1 ∨ s = -1) ∧ f < 2 ^ 23 ∧ Ideal.ofBits .f32 v = ((s * (2 ^ 23 + f : ℕ) * (2 : ℝ) ^ ((field v : ℤ) - 127 - 23) : ℝ) : EReal) := by
    refine ⟨if (v.extractLsb' 31 1 == 1#1) = true then -1 else 1, (v.extractLsb' 0 23).toNat, ?_, (v.extractLsb' 0 23).isLt, ?_⟩
    · split <;> simp
    · change Ideal.ieee 8 23 v = _
      unfold Ideal.ieee
      simp only [Nat.reduceAdd]
      change (if field v = _ then _ else if field v = 0 then _ else (((_ * _ * (2 : ℝ) ^ ((field v : ℤ) - _ - _) : ℝ)) : EReal)) = _
      rw [if_neg (by omega), if_neg (by omega)]
      norm_num
  obtain ⟨s, f, hs, hf, hv⟩ := hx
  have hp : (0 : ℝ) < (2 : ℝ) ^ ((field v : ℤ) - 127 - 23) := zpow_pos (by norm_num) _
  have hfR : (f : ℝ) < 2 ^ 23 := by exact_mod_cast hf
  have e1 : (2 : ℝ) ^ ((field v : ℤ) - 127) = 2 ^ 23 * (2 : ℝ) ^ ((field v : ℤ) - 127 - 23) := by
    rw [← zpow_natCast, ← zpow_add₀ (by norm_num)]; congr 1; push_cast; ring
  have e2 : (2 : ℝ) ^ ((field v : ℤ) - 126) = 2 ^ 24 * (2 : ℝ) ^ ((field v : ℤ) - 127 - 23) := by
    rw [← zpow_natCast, ← zpow_add₀ (by norm_num)]; congr 1; push_cast; ring
  refine ⟨(2 ^ 23 + f) * (2 : ℝ) ^ ((field v : ℤ) - 127 - 23), ?_, ?_, ?_⟩
  · change max (Ideal.ofBits .f32 v) (-(Ideal.ofBits .f32 v)) = _
    rw [hv, ← EReal.coe_neg, ← EReal.coe_strictMono.monotone.map_max]
    congr 1
    push_cast
    have hq : 0 < (2 ^ 23 + (f : ℝ)) * (2 : ℝ) ^ ((field v : ℤ) - 127 - 23) := by positivity
    rcases hs with rfl | rfl
    · rw [max_eq_left (by linarith)]; ring
    · rw [max_eq_right (by linarith)]; ring
  · rw [e1]; exact mul_le_mul_of_nonneg_right (by have : (0 : ℝ) ≤ f := Nat.cast_nonneg f; linarith) hp.le
  · rw [e2]; exact mul_lt_mul_of_pos_right (by linarith) hp

/-- The candidate of number `i`: `2 ^ (i - 127)`. -/
theorem candidate (i : Fin 256) : FloatOps.exp2 (F := Ideal) (φ := .f32) (FloatOps.sitofp .f32 (IntOp.subi (BitVec.ofNat 32 i.val) 127#32))
    = (((2 : ℝ) ^ ((i.val : ℤ) - 127) : ℝ) : EReal) := by
  have h : ∀ i : Fin 256, (BitVec.ofNat 32 i.val - 127#32).toInt = (i.val : ℤ) - 127 := by decide +kernel
  change Ideal.exp2 ((((BitVec.ofNat 32 i.val - 127#32).toInt : ℝ)) : EReal) = _
  rw [h, Ideal.exp2_coe]
  congr 1
  exact Real.rpow_intCast 2 _

/-- The greatest candidate not above the scale's magnitude. -/
theorem greatest (v : BitVec 32) (h1 : 1 ≤ field v) (h2 : field v ≤ 253) :
    (Finset.univ : Finset (Fin 256)).fold max (Ideal.ofBits .f32 4286578688#32) (fun i =>
        if FloatOps.exp2 (F := Ideal) (φ := .f32) (FloatOps.sitofp .f32 (IntOp.subi (BitVec.ofNat 32 i.val) 127#32)) ≤ Scalar.absf (F := Ideal) (φ := .f32) (Ideal.ofBits .f32 v)
        then FloatOps.exp2 (F := Ideal) (φ := .f32) (FloatOps.sitofp .f32 (IntOp.subi (BitVec.ofNat 32 i.val) 127#32)) else (0 : EReal))
      = (((2 : ℝ) ^ ((field v : ℤ) - 127) : ℝ) : EReal) := by
  obtain ⟨r, hr, hlo, hhi⟩ := magnitude v h1 h2
  rw [hr]
  simp only [candidate, EReal.coe_le_coe_iff]
  refine le_antisymm ?_ ?_
  · rw [Finset.fold_max_le]
    refine ⟨?_, fun i _ => ?_⟩
    · rw [show Ideal.ofBits .f32 4286578688#32 = (⊥ : EReal) by simp [Ideal.ofBits, Ideal.ieee]]; exact bot_le
    · split
      · rename_i hle
        have : (2 : ℝ) ^ ((i.val : ℤ) - 127) < (2 : ℝ) ^ ((field v : ℤ) - 126) := lt_of_le_of_lt hle hhi
        have := (zpow_lt_zpow_iff_right₀ (by norm_num : (1 : ℝ) < 2)).1 this
        exact EReal.coe_le_coe_iff.2 ((zpow_le_zpow_iff_right₀ (by norm_num : (1 : ℝ) < 2)).2 (by omega))
      · exact EReal.coe_nonneg.2 (zpow_pos (by norm_num) _).le
  · rw [Finset.le_fold_max]
    refine Or.inr ⟨⟨field v, field_lt v⟩, Finset.mem_univ _, ?_⟩
    rw [if_pos hlo]

/-- The reciprocal of the greatest power of two not above the scale's magnitude is the value of the word of field `254 - e`. -/
theorem inverse_eq (v : BitVec 32) (h1 : 1 ≤ field v) (h2 : field v ≤ 253) :
    Ideal.ofBits .f32 (IntOp.shli ArithUnit.vector (IntOp.subi 254#32 (IntOp.andi (IntOp.shrsi ArithUnit.vector v 23#32) 255#32)) 23#32)
      = Ideal.div 1 ((Finset.univ : Finset (Fin 256)).fold max (Ideal.ofBits .f32 4286578688#32) (fun i =>
        if FloatOps.exp2 (F := Ideal) (φ := .f32) (FloatOps.sitofp .f32 (IntOp.subi (BitVec.ofNat 32 i.val) 127#32)) ≤ Scalar.absf (F := Ideal) (φ := .f32) (Ideal.ofBits .f32 v)
        then FloatOps.exp2 (F := Ideal) (φ := .f32) (FloatOps.sitofp .f32 (IntOp.subi (BitVec.ofNat 32 i.val) 127#32)) else (0 : EReal))) := by
  rw [inverse_value v h1 h2, greatest v h1 h2]
  have hp : (0 : ℝ) < (2 : ℝ) ^ ((field v : ℤ) - 127) := zpow_pos (by norm_num) _
  unfold Ideal.div
  rw [if_neg (by exact_mod_cast hp.ne'), one_mul, ← EReal.coe_inv, ← zpow_neg]
  congr 2
  ring

end Cert.PowerOfTwo

end
-- ==== Proof.Algebraic.lean ====
/- The algebraic claim: on a scale whose word's exponent field lies in 1 … 253, the kernel and the reference compute the same three
   results exactly. -/
module

public import proofs.«01_k».proof.Proof.PowerOfTwo
public import proofs.«01_k».proof.Defs
public import proofs.«01_k».proof.Proof.Gen.Pre_normal_word

@[expose] public section

set_option maxRecDepth 16384

noncomputable section

namespace Cert.Algebraic

open Idealize.ShloMosaic Idealize.ShloMosaic.TcCoe Idealize.SL.Sem
open Cert.PowerOfTwo

/-- The quantiser: the same codes from the same word and activations. -/
theorem codes_eq (v : BitVec 32) (h1 : 1 ≤ field v) (h2 : field v ≤ 253) (x : FVec Ideal Cert.KernelOfWordIdeal.S768x4096 .bf16) :
    Cert.KernelOfWordIdeal.Gen.k0_pay2 (F := Ideal) v x = Cert.ReferenceIdeal.Gen.k0_pay3 (F := Ideal) v x := by
  funext j
  idx_vars j
  pointwise [Cert.KernelOfWordIdeal.Gen.k0_pay2, Cert.ReferenceIdeal.Gen.k0_pay3, Cert.ReferenceIdeal.Gen.k0_pay2]
  rw [inverse_eq v h1 h2]

/-- The product after GELU: the kernel's array, reshaped, is the reference's, reshaped. -/
theorem product_eq (v : BitVec 32) (x : FVec Ideal Cert.KernelOfWordIdeal.S768x4096 .bf16) (w : FVec Ideal Cert.KernelOfWordIdeal.S4096x8192 .fp8e4m3)
    (ws : FVec Ideal Cert.KernelOfWordIdeal.S1x8192 .f32) (hk : Cert.KernelOfWordIdeal.S96x8x8192.ShapeCasts Cert.KernelOfWordIdeal.S3x256x8192)
    (hr : Cert.ReferenceIdeal.S768x8192.ShapeCasts Cert.ReferenceIdeal.S3x256x8192) :
    (shapeCast Cert.KernelOfWordIdeal.S3x256x8192
      (Cert.KernelOfWordIdeal.Value.prod (Cert.KernelOfWordIdeal.Gen.k0_pay1 (F := Ideal) v) (Cert.ReferenceIdeal.Gen.k0_pay3 (F := Ideal) v x) w ws)
      hk : FVec Ideal Cert.KernelOfWordIdeal.S3x256x8192 .bf16)
    = shapeCast Cert.ReferenceIdeal.S3x256x8192
      (Cert.ReferenceIdeal.Gen.k0_pay1 (F := Ideal) (Cert.ReferenceIdeal.Gen.k0_pay4 v x w ws) (Cert.ReferenceIdeal.Gen.k0_pay5 v x w ws) Cert.ReferenceIdeal.Gen.k0_pay6)
      hr := by
  funext j
  idx_vars j
  pointwise [Cert.KernelOfWordIdeal.Value.prod, Cert.KernelOfWordIdeal.Value.prodAt, Cert.KernelOfWordIdeal.Value.gelu,
    Cert.KernelOfWordIdeal.Gen.k0_pay1, Cert.ReferenceIdeal.Gen.k0_pay1, Cert.ReferenceIdeal.Gen.k0_pay2, Cert.ReferenceIdeal.Gen.k0_pay4,
    Cert.ReferenceIdeal.Gen.k0_pay5, Cert.ReferenceIdeal.Gen.k0_pay6]
  have e : ∀ p, (⟨(j0.val * 32 + j1.val / 8) * 8 + j1.val % 8, p⟩ : Fin 768) = ⟨j0.val * 256 + j1.val, by have := j0.isLt; have := j1.isLt; omega⟩ :=
    fun p => Fin.ext (by show (j0.val * 32 + j1.val / 8) * 8 + j1.val % 8 = j0.val * 256 + j1.val; omega)
  simp only [e]
  generalize (∑ k, Cert.ReferenceIdeal.Gen.k0_pay3 (F := Ideal) v x (ix2 _ k) * w (ix2 k j2)) * (Ideal.ofBits .f32 v * ws (ix2 0 j2)) = h
  rw [mul_assoc h h h]

/-- The precondition, read: the field of the scale's word. -/
theorem pre_field {x0 x1 x2 x3} (h : Cert.Pre_normal_word.fn (F := Ideal) x0 x1 x2 x3 = fun _ => 1#1) :
    1 ≤ field (x1 (ix1 0)) ∧ field (x1 (ix1 0)) ≤ 253 := by
  have h := congrFun h (ix1 0)
  pointwise [Cert.Pre_normal_word.fn] at h
  obtain ⟨ha, hb⟩ := and_one _ _ h
  exact ⟨field_ge _ ha, field_le_253 _ hb⟩

/-- THE CLAIM. -/
theorem claim : algebraic_KernelOfWordIdeal_ReferenceIdeal_pre_normal_word := by
  intro m g m' g' hpre hag
  have hK := Cert.KernelOfWordIdeal.Value.run m g
  have hR := Cert.ReferenceIdeal.Value.run (F := Ideal) m' g'
  refine ⟨_, _, _, hK, (θ_run _ _ _).mono (fun r h c => ?_) hR⟩
  obtain ⟨e0, e1, e2, e3⟩ := hag c
  obtain ⟨h1, h2⟩ := pre_field (hpre c)
  obtain ⟨r3, r4, r2, ra⟩ := h c
  refine ⟨r3.trans ?_, r4.trans ?_, r2.trans ?_, ra⟩
  · rw [e0, e1, e2, e3]
    refine (product_eq _ _ _ _ Cert.KernelOfWordIdeal.Gen.shapeCasts_S96x8x8192_S3x256x8192 Cert.ReferenceIdeal.Gen.shapeCasts_S768x8192_S3x256x8192).symm.trans ?_
    rw [← codes_eq _ h1 h2]
  · rw [e0, e1]
    unfold Cert.ReferenceIdeal.Value.codesVal
    rw [← codes_eq _ h1 h2]
  · rw [e1]; rfl

end Cert.Algebraic

end
-- ==== Proof.ReferenceWordsValue.lean ====
/- What `proofs.«01_k».proof.ReferenceWords` computes: the body runs once over whole arrays, so each result is one function of the
   arguments. -/
module

public import proofs.«01_k».proof.Proof.Gen.ReferenceWords.Frame
public import Idealize.ShloMosaic.Lib.Pipeline.ValueKit
public import Idealize.ShloMosaic.Lib.Claim
public import proofs.«01_k».proof.Proof.Algebraic

@[expose] public section

set_option maxRecDepth 16384

noncomputable section

namespace Cert.ReferenceWords.Value

open Cert.ReferenceWords Cert.ReferenceWords.Gen
open Idealize.ShloMosaic Idealize.ShloMosaic.TcCoe Idealize.SL.Sem
open Idealize.ShloMosaic.Pipeline (Dat)

variable {F : FTy → Type} [BitOps F] (m : (ℓ : Loc nD τ sig) → Buf (Elt F) ℓ)

/-- The scale, from the word at hand. -/
abbrev scaleVal (s : Vec F S1 .f32) : FVec F S1 .f32 := fun _ => (s (ix1 0))
/-- The codes. -/
abbrev codesVal (s : Vec F S1 .f32) (x : Vec F S768x4096 .bf16) : FVec F S768x4096 .fp8e4m3 := k0_pay1 (k0_pay6 (k0_pay3 (s (ix1 0))) (k0_pay4 (F := F)) (k0_pay5 (F := F)) x) (Scalar.ofBits .f32 0x43E00000#32) k0_pay7
/-- The product after GELU. -/
abbrev prodVal (s : Vec F S1 .f32) (x : Vec F S768x4096 .bf16) (w : Vec F S4096x8192 .fp8e4m3) (ws : Vec F S1x8192 .f32) : FVec F S768x8192 .bf16 :=
  k0_pay2 (k0_pay6 (k0_pay3 (s (ix1 0))) (k0_pay4 (F := F)) (k0_pay5 (F := F)) x) (Scalar.ofBits .f32 0x43E00000#32) k0_pay7 w (s (ix1 0)) ws

theorem idx : ∀ t : Fin cfg0.N, win0_0.index t = ![0] ∧ win0_1.index t = ![0, 0] ∧ win0_2.index t = ![0, 0] ∧ win0_3.index t = ![0, 0]
    ∧ win0_4.index t = ![0, 0] ∧ win0_5.index t = ![0, 0] ∧ win0_6.index t = ![0] :=
  (by decide +kernel : ∀ t : Fin grid0.N, _)

/-- A scalar load of a one-word block is its word. -/
theorem ld_first {e : EltTy} (x : Vec F S1 e) (i) : View.ld x (Rect.unit (s := S1) ![0] ![1] inb_S1_S1_0) i = x (ix1 0) := by
  unfold View.ld; exact congrArg x (funext fun a => by fin_cases a; exact Subsingleton.elim (α := Fin 1) _ _)

/-- What the body leaves in each output's buffer. -/
theorem body4 (c : Dev nD) (arg0 : Memref sig .tc .smem S1 .f32) (harg0 : arg0.IsWhole) (arg1 : Memref sig .tc .vmem S768x4096 .bf16) (harg1 : arg1.IsWhole) (arg2 : Memref sig .tc .vmem S4096x8192 .fp8e4m3) (harg2 : arg2.IsWhole) (arg3 : Memref sig .tc .vmem S1x8192 .f32) (harg3 : arg3.IsWhole) (arg4 : Memref sig .tc .vmem S768x8192 .bf16) (harg4 : arg4.IsWhole) (arg5 : Memref sig .tc .vmem S768x4096 .fp8e4m3) (harg5 : arg5.IsWhole) (arg6 : Memref sig .tc .smem S1 .f32) (harg6 : arg6.IsWhole)
    (x0 : Vec F S1 .f32) (x1 : Vec F S768x4096 .bf16) (x2 : Vec F S4096x8192 .fp8e4m3) (x3 : Vec F S1x8192 .f32) :
    out0_A_4 c arg0 harg0 arg1 harg1 arg2 harg2 arg3 harg3 arg4 harg4 arg5 harg5 arg6 harg6 x0 x1 x2 x3 = prodVal x0 x1 x2 x3 := by
  frame_out
  exact congrArg (fun s => k0_pay2 (k0_pay6 (k0_pay3 s) (k0_pay4 (F := F)) (k0_pay5 (F := F)) x1) (Scalar.ofBits .f32 0x43E00000#32) k0_pay7 x2 s x3) (ld_first x0 _)
theorem body5 (c : Dev nD) (arg0 : Memref sig .tc .smem S1 .f32) (harg0 : arg0.IsWhole) (arg1 : Memref sig .tc .vmem S768x4096 .bf16) (harg1 : arg1.IsWhole) (arg2 : Memref sig .tc .vmem S4096x8192 .fp8e4m3) (harg2 : arg2.IsWhole) (arg3 : Memref sig .tc .vmem S1x8192 .f32) (harg3 : arg3.IsWhole) (arg4 : Memref sig .tc .vmem S768x8192 .bf16) (harg4 : arg4.IsWhole) (arg5 : Memref sig .tc .vmem S768x4096 .fp8e4m3) (harg5 : arg5.IsWhole) (arg6 : Memref sig .tc .smem S1 .f32) (harg6 : arg6.IsWhole)
    (x0 : Vec F S1 .f32) (x1 : Vec F S768x4096 .bf16) (x2 : Vec F S4096x8192 .fp8e4m3) (x3 : Vec F S1x8192 .f32) :
    out0_A_5 c arg0 harg0 arg1 harg1 arg2 harg2 arg3 harg3 arg4 harg4 arg5 harg5 arg6 harg6 x0 x1 x2 x3 = codesVal x0 x1 := by
  frame_out
  exact congrArg (fun s => k0_pay1 (k0_pay6 (k0_pay3 s) (k0_pay4 (F := F)) (k0_pay5 (F := F)) x1) (Scalar.ofBits .f32 0x43E00000#32) k0_pay7) (ld_first x0 _)
theorem body6 (c : Dev nD) (arg0 : Memref sig .tc .smem S1 .f32) (harg0 : arg0.IsWhole) (arg1 : Memref sig .tc .vmem S768x4096 .bf16) (harg1 : arg1.IsWhole) (arg2 : Memref sig .tc .vmem S4096x8192 .fp8e4m3) (harg2 : arg2.IsWhole) (arg3 : Memref sig .tc .vmem S1x8192 .f32) (harg3 : arg3.IsWhole) (arg4 : Memref sig .tc .vmem S768x8192 .bf16) (harg4 : arg4.IsWhole) (arg5 : Memref sig .tc .vmem S768x4096 .fp8e4m3) (harg5 : arg5.IsWhole) (arg6 : Memref sig .tc .smem S1 .f32) (harg6 : arg6.IsWhole)
    (x0 : Vec F S1 .f32) (x1 : Vec F S768x4096 .bf16) (x2 : Vec F S4096x8192 .fp8e4m3) (x3 : Vec F S1x8192 .f32) :
    out0_A_6 c arg0 harg0 arg1 harg1 arg2 harg2 arg3 harg3 arg4 harg4 arg5 harg5 arg6 harg6 x0 x1 x2 x3 = scaleVal x0 := by
  frame_out
  exact congrArg (fun s _ => s) (ld_first x0 _)
theorem out4 (c : Dev nD) (t : Fin cfg0.N) : (outsAt0 m c t).1 = prodVal (iblk m c 0 t) (iblk m c 1 t) (iblk m c 2 t) (iblk m c 3 t) := by
  simp only [outsAt0, body4]
theorem out5 (c : Dev nD) (t : Fin cfg0.N) : (outsAt0 m c t).2.1 = codesVal (iblk m c 0 t) (iblk m c 1 t) := by
  simp only [outsAt0, body5]
theorem out6 (c : Dev nD) (t : Fin cfg0.N) : (outsAt0 m c t).2.2 = scaleVal (iblk m c 0 t) := by
  simp only [outsAt0, body6]

/-- Each operand's block is its whole array. -/
theorem iblk0 (c : Dev nD) (t : Fin cfg0.N) : iblk m c 0 t = V m c main_arg1 := by blk_ext! [iblk, idx t]
theorem iblk1 (c : Dev nD) (t : Fin cfg0.N) : iblk m c 1 t = V m c main_v0 := by blk_ext! [iblk, idx t]
theorem iblk2 (c : Dev nD) (t : Fin cfg0.N) : iblk m c 2 t = V m c main_arg2 := by blk_ext! [iblk, idx t]
theorem iblk3 (c : Dev nD) (t : Fin cfg0.N) : iblk m c 3 t = V m c main_v1 := by blk_ext! [iblk, idx t]

/-- Each result array after the region. -/
theorem final4 (c : Dev nD) : (dats m 0 c).arrAt 4 (cfgs 0).N
    = prodVal (V m c main_arg1) (V m c main_v0) (V m c main_arg2) (V m c main_v1) := by
  refine (dats m 0 c).arrAt_eq_of_after_last 4 t0_0 (by decide +kernel) _ fun j => ?_
  rw [after0_4, out4, iblk0, iblk1, iblk2, iblk3]
  blk_simp [idx t0_0]
theorem final5 (c : Dev nD) : (dats m 0 c).arrAt 5 (cfgs 0).N = codesVal (V m c main_arg1) (V m c main_v0) := by
  refine (dats m 0 c).arrAt_eq_of_after_last 5 t0_0 (by decide +kernel) _ fun j => ?_
  rw [after0_5, out5, iblk0, iblk1]
  blk_simp [idx t0_0]
theorem final6 (c : Dev nD) : (dats m 0 c).arrAt 6 (cfgs 0).N = scaleVal (V m c main_arg1) := by
  refine (dats m 0 c).arrAt_eq_of_after_last 6 t0_0 (by decide +kernel) _ fun j => ?_
  rw [after0_6, out6, iblk0]
  blk_simp [idx t0_0]

/-- The reshaped operands at the region's entry. -/
theorem entry_v0 (c : Dev nD) : V m c main_v0 = shapeCast S768x4096 (m ((c : Thread nD τ).loc main_arg0)) shapeCasts_S3x256x4096_S768x4096 := by
  unfold V V0
  simp only [hostOps0, List.flatten_cons, List.flatten_nil, List.append_nil]
  after_results
  rfl
theorem entry_v1 (c : Dev nD) : V m c main_v1 = shapeCast S1x8192 (m ((c : Thread nD τ).loc main_arg3)) shapeCasts_S8192_S1x8192 := by
  unfold V V0
  simp only [hostOps0, List.flatten_cons, List.flatten_nil, List.append_nil]
  after_results
  rfl

/-- The results after the reshapes that follow the region. -/
theorem tail3 (c : Dev nD) : Pipeline.afterTail₀ cfgs (dats m) 0 (V0 m) [hostOps1] c main_v3
    = shapeCast S3x256x8192 ((dats m 0 c).arrAt 4 (cfgs 0).N) shapeCasts_S768x8192_S3x256x8192 := by
  have h := Pipeline.withArrays_arr (cfgs 0).spec launch0.win.arr_inj c (V0 m c) (fun w => (dats m 0 c).arrAt w (cfgs 0).N) 4
  unfold Pipeline.afterTail₀
  simp only [hostOps1, List.flatten_cons, List.flatten_nil, List.append_nil]
  after_results
  exact congrArg (fun A => shapeCast S3x256x8192 A shapeCasts_S768x8192_S3x256x8192) h
theorem tail4 (c : Dev nD) : Pipeline.afterTail₀ cfgs (dats m) 0 (V0 m) [hostOps1] c main_v4
    = shapeCast S3x256x4096 ((dats m 0 c).arrAt 5 (cfgs 0).N) shapeCasts_S768x4096_S3x256x4096 := by
  have h := Pipeline.withArrays_arr (cfgs 0).spec launch0.win.arr_inj c (V0 m c) (fun w => (dats m 0 c).arrAt w (cfgs 0).N) 5
  unfold Pipeline.afterTail₀
  simp only [hostOps1, List.flatten_cons, List.flatten_nil, List.append_nil]
  after_results
  exact congrArg (fun A => shapeCast S3x256x4096 A shapeCasts_S768x4096_S3x256x4096) h

/-- THE RUN: every result of the program as one function of its arguments. -/
theorem run (ρ : Dev nD → PrngReg) : θ_run (defs (F := F)) (onTc (τ := τ) (main (F := F))) ⟨m, fun _ => 0, ρ⟩ (fun r => ∀ c : Dev nD,
      r.2.mem ((c.tc : Thread nD τ).loc main_v3) = shapeCast S3x256x8192
        (prodVal (F := F) (m ((c.tc : Thread nD τ).loc main_arg1)) (shapeCast S768x4096 (m ((c.tc : Thread nD τ).loc main_arg0)) shapeCasts_S3x256x4096_S768x4096)
          (m ((c.tc : Thread nD τ).loc main_arg2)) (shapeCast S1x8192 (m ((c.tc : Thread nD τ).loc main_arg3)) shapeCasts_S8192_S1x8192)) shapeCasts_S768x8192_S3x256x8192
      ∧ r.2.mem ((c.tc : Thread nD τ).loc main_v4) = shapeCast S3x256x4096
        (codesVal (F := F) (m ((c.tc : Thread nD τ).loc main_arg1)) (shapeCast S768x4096 (m ((c.tc : Thread nD τ).loc main_arg0)) shapeCasts_S3x256x4096_S768x4096)) shapeCasts_S768x4096_S3x256x4096
      ∧ r.2.mem ((c.tc : Thread nD τ).loc main_v2_2) = scaleVal (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (Gen.frame m ρ))
  refine ⟨?_, ?_, ?_, h.2.1 c⟩
  · rw [(h.1 c).2 main_v3 (Pipeline.mem_restRefs_of main_v3 (by decide) (by decide)), tail3, final4, entry_v0, entry_v1, V_main_arg1, V_main_arg2]
  · rw [(h.1 c).2 main_v4 (Pipeline.mem_restRefs_of main_v4 (by decide) (by decide)), tail4, final5, entry_v0, V_main_arg1]
  · exact ((h.1 c).1 6).trans ((final6 m c).trans (by rw [V_main_arg1]))

end Cert.ReferenceWords.Value

end
-- ==== Proof.KernelValue.lean ====
/- What `proofs.«01_k».proof.Kernel` leaves in its codes' and scale's results: what the first point stored. -/
module

public import proofs.«01_k».proof.Proof.ReferenceWordsValue
public import proofs.«01_k».proof.Proof.KernelRun
public import Idealize.ShloMosaic.Lib.Pipeline.ValueKit
public import Idealize.ShloMosaic.Lib.Pointwise
public import Idealize.ShloMosaic.Lib.Claim

@[expose] public section

set_option maxRecDepth 16384

noncomputable section

namespace Cert.Kernel.Value

open Cert.Kernel Cert.Kernel.Gen Cert.Kernel.Run
open Idealize.ShloMosaic Idealize.ShloMosaic.TcCoe Idealize.SL.Sem
open Idealize.ShloMosaic.Pipeline (Dat)

theorem idx : ∀ t : Fin cfg0.N, win0_0.index t = ![0] ∧ win0_1.index t = ![0, 0] ∧ win0_2.index t = ![0, t.val] ∧ win0_3.index t = ![0, t.val]
    ∧ win0_4.index t = ![0, 0, t.val] ∧ win0_5.index t = ![0, 0] ∧ win0_6.index t = ![0] :=
  (by decide +kernel : ∀ t : Fin grid0.N, _)

section
variable {F : FTy → Type} [BitOps F] (m : (ℓ : Loc nD τ sig) → Buf (Elt F) ℓ)

/-- The scale's word and the activations reach every point whole. -/
theorem iblk0 (c : Dev nD) (t : Fin cfg0.N) : iblk m c 0 t = V m c main_arg1 := by blk_ext! [iblk, idx t]
theorem iblk1 (c : Dev nD) (t : Fin cfg0.N) : iblk m c 1 t = V m c main_v0 := by blk_ext! [iblk, idx t]

/-- The codes' array and the scale's array after the region. -/
theorem final5 (c : Dev nD) : (dats m 0 c).arrAt 5 (cfgs 0).N = codesOf (V m c main_arg1) (V m c main_v0) := by
  refine (dats m 0 c).arrAt_eq_of_after_last 5 t0_7 (by decide +kernel) _ fun j => ?_
  rw [after0_5]; unfold codes; rw [iblk0, iblk1]
  blk_simp [idx t0_7]
  rfl
theorem final6 (c : Dev nD) : (dats m 0 c).arrAt 6 (cfgs 0).N = scaleOf (V m c main_arg1) := by
  refine (dats m 0 c).arrAt_eq_of_after_last 6 t0_7 (by decide +kernel) _ fun j => ?_
  rw [after0_6]; unfold scale; rw [iblk0]
  blk_simp [idx t0_7]

/-- The reshaped operands at the region's entry. -/
theorem entry_v0 (c : Dev nD) : V m c main_v0 = shapeCast S768x4096 (m ((c : Thread nD τ).loc main_arg0)) shapeCasts_S3x256x4096_S768x4096 := by
  unfold V V0
  simp only [hostOps0, List.flatten_cons, List.flatten_nil, List.append_nil]
  after_results
  rfl
theorem entry_v1 (c : Dev nD) : V m c main_v1 = shapeCast S1x8192 (m ((c : Thread nD τ).loc main_arg3)) shapeCasts_S8192_S1x8192 := by
  unfold V V0
  simp only [hostOps0, List.flatten_cons, List.flatten_nil, List.append_nil]
  after_results
  rfl

/-- Result `main_v4`: the region's array, reshaped. -/
theorem tail4 (c : Dev nD) : Pipeline.afterTail₀ cfgs (dats m) 0 (V0 m) [hostOps1] c main_v4
    = shapeCast S3x256x4096 ((dats m 0 c).arrAt 5 (cfgs 0).N) shapeCasts_S768x4096_S3x256x4096 := by
  have h := Pipeline.withArrays_arr (cfgs 0).spec launch0.win.arr_inj c (V0 m c) (fun w => (dats m 0 c).arrAt w (cfgs 0).N) 5
  unfold Pipeline.afterTail₀
  simp only [hostOps1, List.flatten_cons, List.flatten_nil, List.append_nil]
  after_results
  exact congrArg (fun A => shapeCast S3x256x4096 A shapeCasts_S768x4096_S3x256x4096) h
/-- THE RUN: the codes and the scale as functions of the arguments. -/
theorem run (ρ : Dev nD → PrngReg) : θ_run (defs (F := F)) (onTc (τ := τ) (main (F := F))) ⟨m, fun _ => 0, ρ⟩ (fun r => ∀ c : Dev nD,
      r.2.mem ((c.tc : Thread nD τ).loc main_v4) = shapeCast S3x256x4096
        (codesOf (F := F) (m ((c.tc : Thread nD τ).loc main_arg1)) (shapeCast S768x4096 (m ((c.tc : Thread nD τ).loc main_arg0)) shapeCasts_S3x256x4096_S768x4096)) shapeCasts_S768x4096_S3x256x4096
      ∧ r.2.mem ((c.tc : Thread nD τ).loc main_v2_2) = scaleOf (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_main m ρ) (Run.frame m ρ))
  refine ⟨?_, ?_, h.2.1 c⟩
  · rw [(h.1 c).2 main_v4 (Pipeline.mem_restRefs_of main_v4 (by decide) (by decide)), tail4, final5, entry_v0, V_main_arg1]
  · exact ((h.1 c).1 6).trans ((final6 m c).trans (by rw [V_main_arg1]))

end

end Cert.Kernel.Value

end
-- ==== Proof.BitExact.lean ====
/- The bit-exact claim on the codes and the scale: the kernel's word of field `254 - e`, `e` the exponent field of the scale, is the word of
   `ldexp 1 (1 - k)`, `k` the exponent `frexp` gives the scale, for `e` in 1 … 254. -/
module

public import proofs.«01_k».proof.Proof.KernelValue
public import proofs.«01_k».proof.Defs
public import proofs.«01_k».proof.Proof.Gen.Pre_normal_scale
public import proofs.«01_k».proof.Proof.Gen.On_codes_and_scale

@[expose] public section

set_option maxRecDepth 16384

noncomputable section

namespace Cert.BitExact

open Idealize.ShloMosaic Idealize.ShloMosaic.TcCoe Idealize.SL.Sem
open Cert.PowerOfTwo

/-- A word that stands for zero or a subnormal loses its low bits; any other stays. -/
def keep (v : BitVec 32) : BitVec 32 := Scalar.select (IntOp.cmpi .eq (IntOp.andi v 2139095040#32) 0#32) (IntOp.andi v 2147483648#32) v
/-- One less the exponent `frexp` gives: `1 - (e - 126)`, and 1 at the fields 0 and 255. -/
def power (v : BitVec 32) : BitVec 32 :=
  IntOp.subi 1#32 (Scalar.select
    (IntOp.ori (IntOp.cmpi .eq (IntOp.andi (IntOp.shrui ArithUnit.vector (keep v) 23#32) 255#32) 255#32) (IntOp.cmpi .eq (IntOp.andi (IntOp.shrui ArithUnit.vector (keep v) 23#32) 255#32) 0#32))
    0#32 (IntOp.subi (IntOp.andi (IntOp.shrui ArithUnit.vector (keep v) 23#32) 255#32) 126#32))
/-- `ldexp` of the value of word `u` by `k`: the field moves by `k`, clamped to zero below and to infinity above. -/
def moved (u k : BitVec 32) : BitVec 32 := IntOp.addi (IntOp.andi (IntOp.shrui ArithUnit.vector u 23#32) 255#32) (IntOp.minsi (IntOp.maxsi k 4294966784#32) 512#32)
def scaled (u k : BitVec 32) : BitVec 32 :=
  Scalar.select (IntOp.cmpi .eq (IntOp.andi (IntOp.shrui ArithUnit.vector u 23#32) 255#32) 255#32) u
    (Scalar.select (IntOp.cmpi .eq (IntOp.andi (IntOp.shrui ArithUnit.vector u 23#32) 255#32) 0#32) (IntOp.andi u 2147483648#32)
      (Scalar.select (IntOp.cmpi .sle (moved u k) 0#32) (IntOp.andi u 2147483648#32)
        (Scalar.select (IntOp.cmpi .sge (moved u k) 255#32) (IntOp.ori (IntOp.andi u 2147483648#32) 2139095040#32)
          (IntOp.ori (IntOp.ori (IntOp.andi u 2147483648#32) (IntOp.shli ArithUnit.vector (moved u k) 23#32)) (IntOp.andi u 8388607#32)))))
/-- The kernel's word. -/
def kernelWord (v : BitVec 32) : BitVec 32 := IntOp.shli ArithUnit.vector (IntOp.subi 254#32 (IntOp.andi (IntOp.shrsi ArithUnit.vector v 23#32) 255#32)) 23#32

/-- A logical shift reads the field too. -/
theorem read_field_u (v : BitVec 32) : IntOp.andi (IntOp.shrui ArithUnit.vector v 23#32) 255#32 = BitVec.ofNat 32 (field v) := by
  rw [← read_field]
  change (v >>> 23) &&& 255#32 = v.sshiftRight 23 &&& 255#32
  have hm : ∀ i : Fin 32, (255#32).getLsbD i = decide (i.val < 8) := by decide
  refine BitVec.eq_of_getLsbD_eq fun i hi => ?_
  have h255 := hm ⟨i, hi⟩
  simp only at h255
  rw [BitVec.getLsbD_and, BitVec.getLsbD_and, h255, BitVec.getLsbD_sshiftRight, BitVec.getLsbD_ushiftRight]
  by_cases h8 : i < 8
  · have : 23 + i < 32 := by omega
    simp [h8, hi, this]
  · simp [h8]

/-- A normal word stays. -/
theorem keep_eq (v : BitVec 32) (h1 : 1 ≤ field v) : keep v = v := by
  unfold keep Scalar.select
  rw [if_neg]
  intro h
  have hz : v &&& 2139095040#32 = 0#32 := by
    by_contra hne
    have : IntOp.cmpi .eq (IntOp.andi v 2139095040#32) 0#32 = 0#1 := by
      change BitVec.ofBool (v &&& 2139095040#32 == 0#32) = 0#1
      rw [beq_eq_false_iff_ne.mpr hne]; rfl
    rw [this] at h
    exact absurd h (by decide)
  have hx : (v &&& 2139095040#32).extractLsb' 23 8 = v.extractLsb' 23 8 := by
    have hm : ∀ i : Fin 8, (2139095040#32).getLsbD (23 + i.val) = true := by decide
    refine BitVec.eq_of_getLsbD_eq fun i hi => ?_
    rw [BitVec.getLsbD_extractLsb', BitVec.getLsbD_extractLsb', BitVec.getLsbD_and, hm ⟨i, hi⟩, Bool.and_true]
  rw [hz] at hx
  have : field v = 0 := by unfold field; rw [← hx]; rfl
  omega

/-- The words, by cases of the field. -/
theorem words : ∀ e : Fin 256, 1 ≤ e.val → e.val ≤ 254 →
    scaled (keep 1065353216#32) (IntOp.subi 1#32 (Scalar.select (IntOp.ori (IntOp.cmpi .eq (BitVec.ofNat 32 e.val) 255#32) (IntOp.cmpi .eq (BitVec.ofNat 32 e.val) 0#32))
        0#32 (IntOp.subi (BitVec.ofNat 32 e.val) 126#32)))
      = IntOp.shli ArithUnit.vector (IntOp.subi 254#32 (BitVec.ofNat 32 e.val)) 23#32 := by decide +kernel

/-- The two words are one. -/
theorem word_eq (v : BitVec 32) (h1 : 1 ≤ field v) (h2 : field v ≤ 254) : kernelWord v = scaled (keep 1065353216#32) (power v) := by
  unfold kernelWord power
  rw [read_field, keep_eq v h1, read_field_u]
  exact (words ⟨field v, field_lt v⟩ h1 h2).symm

/-- The codes are equal. -/
theorem codes_eq (s : Bits .f32) (x : FVec Bits Cert.Kernel.S768x4096 .bf16) (h1 : 1 ≤ field (BitOps.toBits s)) (h2 : field (BitOps.toBits s) ≤ 254) :
    Cert.Kernel.Gen.k0_pay1 (F := Bits) s x
      = Cert.ReferenceWords.Gen.k0_pay1 (F := Bits) (Cert.ReferenceWords.Gen.k0_pay6 (Cert.ReferenceWords.Gen.k0_pay3 (F := Bits) s) (Cert.ReferenceWords.Gen.k0_pay4 (F := Bits))
          (Cert.ReferenceWords.Gen.k0_pay5 (F := Bits)) x) (Scalar.ofBits .f32 0x43E00000#32) Cert.ReferenceWords.Gen.k0_pay7 := by
  funext j
  idx_vars j
  pointwise [Cert.Kernel.Gen.k0_pay1, Cert.ReferenceWords.Gen.k0_pay1, Cert.ReferenceWords.Gen.k0_pay3, Cert.ReferenceWords.Gen.k0_pay4, Cert.ReferenceWords.Gen.k0_pay5,
    Cert.ReferenceWords.Gen.k0_pay6, Cert.ReferenceWords.Gen.k0_pay7]
  have h := word_eq (BitOps.toBits s) h1 h2
  unfold kernelWord at h
  rw [h]
  rfl

/-- The precondition, read. -/
theorem pre_field {x0 x1 x2 x3} (h : Cert.Pre_normal_scale.fn (F := Bits) x0 x1 x2 x3 = fun _ => 1#1) :
    1 ≤ field (BitOps.toBits (F := Bits) (φ := .f32) (x1 (ix1 0))) ∧ field (BitOps.toBits (F := Bits) (φ := .f32) (x1 (ix1 0))) ≤ 254 := by
  have h := congrFun h (ix1 0)
  pointwise [Cert.Pre_normal_scale.fn] at h
  obtain ⟨ha, hb⟩ := and_one _ _ h
  exact ⟨field_ge _ ha, field_le_254 _ hb⟩

/-- THE CLAIM. -/
theorem claim : bitexact_Kernel_ReferenceWords_on_codes_and_scale_pre_normal_scale := by
  intro m g m' g' hpre hag
  have hK := Cert.Kernel.Value.run (F := Bits) m g
  have hR := Cert.ReferenceWords.Value.run (F := Bits) m' g'
  have hy : ∀ x0 x1 x2 x3 i, (Cert.On_codes_and_scale.fn (F := Bits) x0 x1 x2 x3).1 i ≠ 1#1 := by
    intro x0 x1 x2 x3 i h
    have : (0#1 : BitVec 1) = 1#1 := h
    exact absurd this (by decide)
  refine ⟨fun c => m ((c.tc : Thread Cert.Kernel.nD Cert.Kernel.τ).loc Cert.Kernel.main_v3),
    fun c => shapeCast Cert.Kernel.S3x256x4096 (Cert.Kernel.Run.codesOf (F := Bits) (m ((c.tc : Thread Cert.Kernel.nD Cert.Kernel.τ).loc Cert.Kernel.main_arg1))
      (shapeCast Cert.Kernel.S768x4096 (m ((c.tc : Thread Cert.Kernel.nD Cert.Kernel.τ).loc Cert.Kernel.main_arg0)) Cert.Kernel.Gen.shapeCasts_S3x256x4096_S768x4096))
      Cert.Kernel.Gen.shapeCasts_S768x4096_S3x256x4096,
    fun c => Cert.Kernel.Run.scaleOf (F := Bits) (m ((c.tc : Thread Cert.Kernel.nD Cert.Kernel.τ).loc Cert.Kernel.main_arg1)), (θ_run _ _ _).mono (fun r h c => ?_) hK, (θ_run _ _ _).mono (fun r h c => ?_) hR⟩
  · obtain ⟨r4, r2, ra⟩ := h c
    exact ⟨fun i hi => absurd hi (hy _ _ _ _ i), fun i _ => congrFun r4 i, fun i _ => congrFun r2 i, ra⟩
  · obtain ⟨e0, e1, e2, e3⟩ := hag c
    obtain ⟨h1, h2⟩ := pre_field (hpre c)
    obtain ⟨r3, r4, r2, ra⟩ := h c
    refine ⟨fun i hi => absurd hi (hy _ _ _ _ i), fun i _ => (congrFun r4 i).trans ?_, fun i _ => (congrFun r2 i).trans ?_, ra⟩
    · rw [e0, e1]
      refine congrFun (congrArg (fun A => shapeCast _ A _) ?_) i
      exact (codes_eq _ _ h1 h2).symm
    · rw [e1]

end Cert.BitExact

end
-- ==== Proof.lean ====
/- The certificate. The modules under Proof/ prove its parts, each importing the one before it:
   KernelOfWordIdealRun, KernelOfWordRun, KernelRun — what every grid point of the kernel leaves, and the frames;
   ReferenceIdealValue, KernelOfWordIdealValue — the two programs of the algebraic claim as functions of their arguments;
   PowerOfTwo — the two inverses of the power of two are one number;
   Algebraic — the algebraic claim;
   ReferenceWordsValue, KernelValue, BitExact — the bit-exact claim on the codes and the scale. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.ReferenceWords
public import proofs.«01_k».proof.Proof.Gen.ReferenceWords.Skeleton
public import proofs.«01_k».proof.Proof.Gen.ReferenceWords.Launch
public import proofs.«01_k».proof.Proof.Gen.ReferenceWords.Points
public import proofs.«01_k».proof.Proof.Gen.ReferenceWords.Frame
public import proofs.«01_k».proof.Proof.Gen.KernelOfWord
public import proofs.«01_k».proof.Proof.Gen.KernelOfWord.Skeleton
public import proofs.«01_k».proof.Proof.Gen.KernelOfWord.Launch
public import proofs.«01_k».proof.Proof.Gen.KernelOfWord.Points
public import proofs.«01_k».proof.Proof.Gen.KernelOfWord.Frame
public import proofs.«01_k».proof.Proof.Gen.KernelOfWordIdeal
public import proofs.«01_k».proof.Proof.Gen.KernelOfWordIdeal.Skeleton
public import proofs.«01_k».proof.Proof.Gen.KernelOfWordIdeal.Launch
public import proofs.«01_k».proof.Proof.Gen.KernelOfWordIdeal.Points
public import proofs.«01_k».proof.Proof.Gen.KernelOfWordIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_normal_scale
public import proofs.«01_k».proof.Proof.Gen.Pre_normal_word
public import proofs.«01_k».proof.Proof.Gen.On_codes_and_scale
public import proofs.«01_k».proof.Proof.BitExact
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.ReferenceWords.Gen.facts, Cert.KernelOfWord.Gen.facts, Cert.KernelOfWordIdeal.Gen.facts, Cert.ReferenceIdeal.Gen.facts, Cert.Pre_normal_scale.Gen.facts, Cert.Pre_normal_word.Gen.facts, Cert.On_codes_and_scale.Gen.facts,
  fun m g _ => Cert.Kernel.Run.frame m g,
  fun m g _ => Cert.Kernel.Run.frame m g,
  fun m g _ => Cert.ReferenceWords.Gen.frame m g,
  fun m g _ => Cert.KernelOfWord.Run.frame m g,
  fun m g _ => Cert.KernelOfWordIdeal.Run.frame m g,
  fun m g _ => Cert.KernelOfWordIdeal.Run.frame m g,
  fun m g _ => Cert.ReferenceIdeal.Gen.frame m g,
  fun m g _ => Cert.ReferenceIdeal.Gen.frame m g,
  Cert.BitExact.claim, trivial, Cert.Algebraic.claim⟩

end Cert.Proof

end
